-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x1024x256 : Shape := ⟨3, ![64, 1024, 256]⟩
abbrev S7 : Shape := ⟨1, ![7]⟩
abbrev S1792x256 : Shape := ⟨2, ![1792, 256]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S1792x256 : S_.BroadcastsInDim S1792x256 (![] : Fin 0 → Fin S1792x256.rank)
  reducesTo_S1792x256_S_d0_1 : S1792x256.ReducesTo [0, 1] S_

variable [Facts]

def fn {F : FTy → Type} [FloatOps F] (main_arg0 : FVec F S64x1024x256 .f32) (main_arg1 : FVec F S7 .f32) (main_arg2 : FVec F S1792x256 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S1792x256 .f32 := Host.absf main_arg2
  let main_cst_0 : FVec F S_ .f32 := constant S_ .f32 0x7F800000#32
  let main_v5 : FVec F S1792x256 .f32 := broadcastInDim S1792x256 ![] bcast_S_S1792x256 main_cst_0
  let main_v6 : IVec S1792x256 1 := cmpf .olt main_v4 main_v5
  let main_c_1 : IVec S_ 1 := constantI S_ 1 1#1
  let main_v7 : IVec S_ 1 := (fun x v => Host.reduce IntOp.andi x v reducesTo_S1792x256_S_d0_1 h_S_) main_v6 main_c_1
  let main_v8 : IVec S_ 1 := andi main_v3 main_v7
  main_v8
-- ==== Kernel.lean ====
abbrev S64x1024x256 : Shape := ⟨3, ![64, 1024, 256]⟩
abbrev S7 : Shape := ⟨1, ![7]⟩
abbrev S1792x256 : Shape := ⟨2, ![1792, 256]⟩
abbrev S64x256x1024 : Shape := ⟨3, ![64, 256, 1024]⟩
abbrev S1x1 : Shape := ⟨2, ![1, 1]⟩
abbrev S65536x256 : Shape := ⟨2, ![65536, 256]⟩
abbrev S65536x1 : Shape := ⟨2, ![65536, 1]⟩
abbrev S1x1024x256 : Shape := ⟨3, ![1, 1024, 256]⟩
abbrev S1x256x1024 : Shape := ⟨3, ![1, 256, 1024]⟩
abbrev S1024x256 : Shape := ⟨2, ![1024, 256]⟩
abbrev S1024x1 : Shape := ⟨2, ![1024, 1]⟩
abbrev S1x256 : Shape := ⟨2, ![1, 256]⟩
abbrev S1 : Shape := ⟨1, ![1]⟩
abbrev S256x256 : Shape := ⟨2, ![256, 256]⟩
abbrev S1024 : Shape := ⟨1, ![1024]⟩
abbrev S256 : Shape := ⟨1, ![256]⟩
abbrev S256x1024 : Shape := ⟨2, ![256, 1024]⟩
abbrev S1x1024x1 : Shape := ⟨3, ![1, 1024, 1]⟩
abbrev S1x1x1 : Shape := ⟨3, ![1, 1, 1]⟩
abbrev S1x1x256 : Shape := ⟨3, ![1, 1, 256]⟩
abbrev S_ : Shape := ⟨0, ![]⟩

abbrev nBuf : Space → Nat
  | .hbm => 10
  | .vmem => 12
  | .smem => 2
  | _ => 0

abbrev bufTy : (tb : Table) → Fin (tcTables nBuf tb) → BufTy
  | .hbm, ⟨0, _⟩ => ⟨S64x1024x256, .f32⟩
  | .hbm, ⟨1, _⟩ => ⟨S7, .f32⟩
  | .hbm, ⟨2, _⟩ => ⟨S1792x256, .f32⟩
  | .hbm, ⟨3, _⟩ => ⟨S64x256x1024, .f32⟩
  | .hbm, ⟨4, _⟩ => ⟨S1x1, .f32⟩
  | .hbm, ⟨5, _⟩ => ⟨S1x1, .f32⟩
  | .hbm, ⟨6, _⟩ => ⟨S65536x256, .f32⟩
  | .hbm, ⟨7, _⟩ => ⟨S65536x1, .i32⟩
  | .hbm, ⟨8, _⟩ => ⟨S_, .f32⟩
  | .hbm, ⟨9, _⟩ => ⟨S_, .f32⟩
  | .local _ .vmem, ⟨0, _⟩ => ⟨S1x1024x256, .f32⟩
  | .local _ .vmem, ⟨1, _⟩ => ⟨S1x1024x256, .f32⟩
  | .local _ .vmem, ⟨2, _⟩ => ⟨S1792x256, .f32⟩
  | .local _ .vmem, ⟨3, _⟩ => ⟨S1x256x1024, .f32⟩
  | .local _ .vmem, ⟨4, _⟩ => ⟨S1x256x1024, .f32⟩
  | .local _ .vmem, ⟨5, _⟩ => ⟨S1x1, .f32⟩
  | .local _ .vmem, ⟨6, _⟩ => ⟨S1x1, .f32⟩
  | .local _ .vmem, ⟨7, _⟩ => ⟨S1024x256, .f32⟩
  | .local _ .vmem, ⟨8, _⟩ => ⟨S1024x256, .f32⟩
  | .local _ .vmem, ⟨9, _⟩ => ⟨S1024x1, .i32⟩
  | .local _ .vmem, ⟨10, _⟩ => ⟨S1024x1, .i32⟩
  | .local _ .vmem, ⟨11, _⟩ => ⟨S1x256, .f32⟩
  | .local _ .smem, ⟨0, _⟩ => ⟨S7, .f32⟩
  | .local _ .smem, ⟨1, _⟩ => ⟨S1x1, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v1 : Ref sig .tc := ⟨.hbm, 8, rfl⟩
abbrev main_v2 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch1 : Ref sig .tc := ⟨.vmem, 11, rfl⟩
abbrev cc0_stg0_0 : Ref sig .tc := ⟨.smem, 0, rfl⟩
abbrev cc0_scratch0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c1_i32 : BitVec 32 := 1#32
  let c6_i32 : BitVec 32 := 6#32
  let v1 : BitVec 32 := Scalar.addi c1_i32 c6_i32
  let c1_i32_0 : BitVec 32 := 1#32
  ⟨c1_i32, v1, c1_i32_0⟩
def k0_off1 (k0_t1 : Fin k0_t1_loop.trips) : Fin 1 → Nat :=
  let c1_i32 : BitVec 32 := 1#32
  let c1_i32_0 : BitVec 32 := 1#32
  let arg11 : BitVec 32 := Scf.iv c1_i32 c1_i32_0 k0_t1
  let v61 : Index := Scalar.indexCast arg11
  ![v61.toNat]
def k0_off2 (v2_1 : BitVec 32) : Fin 2 → Nat :=
  let c256_i32 : BitVec 32 := 256#32
  let v3 : BitVec 32 := Scalar.muli v2_1 c256_i32
  let v4 : Index := Scalar.indexCast v3
  let c0_2 : Index := 0#32
  ![v4.toNat, 0]

def k0_chk1 (v2_1 : BitVec 32) : Prop :=
  (∀ a, (k0_off2 v2_1) a + S256x256.size a ≤ S1792x256.size a)
theorem k0_off2_inb : ∀ (v2_1 : BitVec 32) (k0_hw1 : k0_chk1 v2_1), ∀ a, (k0_off2 v2_1) a + S256x256.size a ≤ S1792x256.size a := fun v2_1 k0_hw1 => k0_hw1

def k0_cond2 (i : grid0.Coords) : BitVec 1 :=
  let arg0 : BitVec 32 := BitVec.ofNat 32 (i 0).val
  let c63_i32 : BitVec 32 := 63#32
  let v58 : BitVec 1 := Scalar.cmpi .eq arg0 c63_i32
  let v59 : BitVec 32 := Scalar.extui v58
  let c0_i32_32 : BitVec 32 := 0#32
  let v60 : BitVec 1 := Scalar.cmpi .ne v59 c0_i32_32
  v60

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S64x1024x256 : Shape := ⟨3, ![64, 1024, 256]⟩
abbrev S7 : Shape := ⟨1, ![7]⟩
abbrev S1792x256 : Shape := ⟨2, ![1792, 256]⟩
abbrev S65536x256 : Shape := ⟨2, ![65536, 256]⟩
abbrev S_ : Shape := ⟨0, ![]⟩
abbrev S256x256 : Shape := ⟨2, ![256, 256]⟩
abbrev S65536 : Shape := ⟨1, ![65536]⟩
abbrev S65536x1 : Shape := ⟨2, ![65536, 1]⟩
abbrev S256 : Shape := ⟨1, ![256]⟩
abbrev S1x256 : Shape := ⟨2, ![1, 256]⟩
abbrev S65536x2 : Shape := ⟨2, ![65536, 2]⟩
abbrev S64x256x1024 : Shape := ⟨3, ![64, 256, 1024]⟩

abbrev nBuf : Space → Nat
  | .hbm => 98
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S7, .f32⟩
  | .hbm, ⟨2, _⟩ => ⟨S1792x256, .f32⟩
  | .hbm, ⟨3, _⟩ => ⟨S65536x256, .f32⟩
  | .hbm, ⟨4, _⟩ => ⟨S7, .i32⟩
  | .hbm, ⟨5, _⟩ => ⟨S_, .f32⟩
  | .hbm, ⟨6, _⟩ => ⟨S_, .i32⟩
  | .hbm, ⟨7, _⟩ => ⟨S_, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S256x256, .f32⟩
  | .hbm, ⟨18, _⟩ => ⟨S65536x256, .f32⟩
  | .hbm, ⟨19, _⟩ => ⟨S_, .f32⟩
  | .hbm, ⟨20, _⟩ => ⟨S65536, .f32⟩
  | .hbm, ⟨21, _⟩ => ⟨S65536x1, .f32⟩
  | .hbm, ⟨22, _⟩ => ⟨S256x256, .f32⟩
  | .hbm, ⟨23, _⟩ => ⟨S_, .f32⟩
  | .hbm, ⟨24, _⟩ => ⟨S256, .f32⟩
  | .hbm, ⟨25, _⟩ => ⟨S1x256, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S256x256, .f32⟩
  | .hbm, ⟨30, _⟩ => ⟨S65536x256, .f32⟩
  | .hbm, ⟨31, _⟩ => ⟨S_, .f32⟩
  | .hbm, ⟨32, _⟩ => ⟨S65536x256, .f32⟩
  | .hbm, ⟨33, _⟩ => ⟨S65536x256, .f32⟩
  | .hbm, ⟨34, _⟩ => ⟨S65536x256, .f32⟩
  | .hbm, ⟨35, _⟩ => ⟨S65536x256, .i32⟩
  | .hbm, ⟨36, _⟩ => ⟨S_, .f32⟩
  | .hbm, ⟨37, _⟩ => ⟨S_, .i32⟩
  | .hbm, ⟨38, _⟩ => ⟨S65536, .f32⟩
  | .hbm, ⟨39, _⟩ => ⟨S65536, .i32⟩
  | .hbm, ⟨40, _⟩ => ⟨S65536x1, .i32⟩
  | .hbm, ⟨41, _⟩ => ⟨S_, .f32⟩
  | .hbm, ⟨42, _⟩ => ⟨S65536x256, .f32⟩
  | .hbm, ⟨43, _⟩ => ⟨S65536, .i32⟩
  | .hbm, ⟨44, _⟩ => ⟨S_, .i32⟩
  | .hbm, ⟨45, _⟩ => ⟨S65536, .i32⟩
  | .hbm, ⟨46, _⟩ => ⟨S65536, .i1⟩
  | .hbm, ⟨47, _⟩ => ⟨S_, .i32⟩
  | .hbm, ⟨48, _⟩ => ⟨S65536, .i32⟩
  | .hbm, ⟨49, _⟩ => ⟨S65536, .i32⟩
  | .hbm, ⟨50, _⟩ => ⟨S65536, .i32⟩
  | .hbm, ⟨51, _⟩ => ⟨S_, .i32⟩
  | .hbm, ⟨52, _⟩ => ⟨S65536, .i32⟩
  | .hbm, ⟨53, _⟩ => ⟨S65536, .i1⟩
  | .hbm, ⟨54, _⟩ => ⟨S_, .i32⟩
  | .hbm, ⟨55, _⟩ => ⟨S65536, .i32⟩
  | .hbm, ⟨56, _⟩ => ⟨S65536, .i32⟩
  | .hbm, ⟨57, _⟩ => ⟨S65536, .i32⟩
  | .hbm, ⟨58, _⟩ => ⟨S65536x1, .i32⟩
  | .hbm, ⟨59, _⟩ => ⟨S65536x1, .i32⟩
  | .hbm, ⟨60, _⟩ => ⟨S65536x2, .i32⟩
  | .hbm, ⟨61, _⟩ => ⟨S_, .f32⟩
  | .hbm, ⟨62, _⟩ => ⟨S65536, .f32⟩
  | .hbm, ⟨63, _⟩ => ⟨S65536x256, .f32⟩
  | .hbm, ⟨64, _⟩ => ⟨S65536x256, .f32⟩
  | .hbm, ⟨65, _⟩ => ⟨S64x1024x256, .f32⟩
  | .hbm, ⟨66, _⟩ => ⟨S64x1024x256, .f32⟩
  | .hbm, ⟨67, _⟩ => ⟨S64x1024x256, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S64x1024x256, .f32⟩
  | .hbm, ⟨75, _⟩ => ⟨S64x1024x256, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S64x1024x256, .f32⟩
  | .hbm, ⟨82, _⟩ => ⟨S64x1024x256, .f32⟩
  | .hbm, ⟨83, _⟩ => ⟨S_, .f32⟩
  | .hbm, ⟨84, _⟩ => ⟨S256, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S_, .f32⟩
  | .hbm, ⟨89, _⟩ => ⟨S256, .f32⟩
  | .hbm, ⟨90, _⟩ => ⟨S256, .f32⟩
  | .hbm, ⟨91, _⟩ => ⟨S256, .f32⟩
  | .hbm, ⟨92, _⟩ => ⟨S256, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S64x256x1024, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_v0 : Ref sig .tc := ⟨.hbm, 35, rfl⟩
abbrev main_call1_cst : Ref sig .tc := ⟨.hbm, 36, rfl⟩
abbrev main_call1_c : Ref sig .tc := ⟨.hbm, 37, rfl⟩
abbrev main_call1_v1_0 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_cst_13 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_14 : Ref sig .tc := ⟨.hbm, 76, rfl⟩
abbrev main_v49 : Ref sig .tc := ⟨.hbm, 77, rfl⟩
abbrev main_cst_15 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_16 : Ref sig .tc := ⟨.hbm, 83, rfl⟩
abbrev main_v54 : Ref sig .tc := ⟨.hbm, 84, rfl⟩
abbrev main_cst_17 : Ref sig .tc := ⟨.hbm, 85, rfl⟩
abbrev main_v55 : Ref sig .tc := ⟨.hbm, 86, rfl⟩
abbrev main_v56 : Ref sig .tc := ⟨.hbm, 87, rfl⟩
abbrev main_cst_18 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_19 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩

abbrev nD : Nat := 1
abbrev τ : Topo := Topo.v7x

variable {F : FTy → Type} [FloatOps F]
-- ==== Proof.KernelIdeal.Pick.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow
public import Idealize.ShloMosaic.Lib.WholeRead
public import Idealize.ShloMosaic.Lib.Claim
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Word `k` (from 1 to 6) of the loaded seven words, as the loop reads it. -/
def word (x : Vec F S7 .f32) (k : Fin k0_t1_loop.trips) : Elt F .f32 :=
  View.ld x (Rect.unit (s := S7) (k0_off1 k) S1.size (k0_off1_inb k)) (Shape.Idx.first (numel1_S1.symm ▸ Nat.one_pos))

/-- One trip of the selection loop: keep the larger word and its position. -/
def pickStep (x : Vec F S7 .f32) (k : ℕ) (acc : Elt F .f32 × BitVec 32) : Elt F .f32 × BitVec 32 :=
  if h : k < k0_t1_loop.trips then
    (k0_pay7 acc.1 (word x ⟨k, h⟩), Scalar.select (Scalar.cmpf .ogt (word x ⟨k, h⟩) acc.1) (Scf.iv 1#32 1#32 k) acc.2)
  else acc

/-- The best word and its position before trip `k`. -/
def pick (x : Vec F S7 .f32) : ℕ → Elt F .f32 × BitVec 32
  | 0 => (View.ld x (Rect.unit (s := S7) ![0] S1.size inb_S7_S1_0) (Shape.Idx.first (numel1_S1.symm ▸ Nat.one_pos)), 0#32)
  | k + 1 => pickStep x k (pick x k)

section
variable (c : Dev nD) (i : grid0.Coords) (arg1 : Memref sig .tc .smem S7 .f32) (harg1 : arg1.IsWhole) (arg2 : Memref sig .tc .vmem S1x1024x256 .f32) (harg2 : arg2.IsWhole) (arg3 : Memref sig .tc .vmem S1792x256 .f32) (harg3 : arg3.IsWhole) (arg4 : Memref sig .tc .vmem S1x256x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1024x256 .f32) (harg7 : arg7.IsWhole) (arg8 : Memref sig .tc .vmem S1024x1 .i32) (harg8 : arg8.IsWhole) (arg9 : Memref sig .tc .smem S1x1 .f32) (harg9 : arg9.IsWhole) (arg10 : Memref sig .tc .vmem S1x256 .f32) (harg10 : arg10.IsWhole)

theorem tripR_eq (x : Vec F S7 .f32) (k : Fin k0_t1_loop.trips) (acc : Elt F .f32 × BitVec 32) :
    tripR_k0_t1 (F := F) Variants.none c none i arg1 harg1 arg2 harg2 arg3 harg3 arg4 harg4 arg5 harg5 arg6 harg6 arg7 harg7 arg8 harg8 arg9 harg9 arg10 harg10 (harg1.unread x) k acc
      = (k0_pay7 acc.1 (word x k), Scalar.select (Scalar.cmpf .ogt (word x k) acc.1) (Scf.iv 1#32 1#32 k) acc.2) := by
  unfold tripR_k0_t1 trip_k0_t1
  dsimp only
  have e : trip_k0_t1.sl.r arg1 (harg1.unread x) k = word x k := by
    unfold trip_k0_t1.sl.r word
    rw [Memref.IsWhole.readAt_unread harg1 x]
  unfold trip_k0_t1.sl.v65 trip_k0_t1.sl.v63 trip_k0_t1.sl.arg11
  rw [e]

theorem st_eq_pick (x : Vec F S7 .f32) (k : ℕ) :
    st_k0_t1 (F := F) Variants.none c none i arg1 harg1 arg2 harg2 arg3 harg3 arg4 harg4 arg5 harg5 arg6 harg6 arg7 harg7 arg8 harg8 arg9 harg9 arg10 harg10 (harg1.unread x) (pick x 0) k = pick x k := by
  induction k with
  | zero => rfl
  | succ k ih =>
    rw [st_k0_t1.eq_2, ih]
    show _ = pickStep x k (pick x k)
    generalize pick x k = acc
    unfold st_k0_t1Step pickStep
    by_cases h : k < k0_t1_loop.trips
    · rw [dif_pos h, dif_pos h, tripR_eq]
    · rw [dif_neg h, dif_neg h]
end

/-- Six trips. -/
theorem trips_eq : k0_t1_loop.trips = 6 := by decide +kernel

/-- Trip `k`'s induction variable is `k + 1`. -/
theorem iv_toNat : ∀ k : Fin 6, (Scf.iv 1#32 1#32 k.val).toNat = k.val + 1 := by decide +kernel

/-- The position never runs past the trip. -/
theorem pick_bound (x : Vec F S7 .f32) (k : ℕ) : (pick x k).2.toNat ≤ k ∧ (pick x k).2.toNat ≤ 6 := by
  induction k with
  | zero => exact ⟨Nat.le_refl 0, Nat.zero_le _⟩
  | succ k ih =>
    show (pickStep x k (pick x k)).2.toNat ≤ k + 1 ∧ (pickStep x k (pick x k)).2.toNat ≤ 6
    by_cases h : k < k0_t1_loop.trips
    · have h6 : k < 6 := trips_eq ▸ h
      have e : (pickStep x k (pick x k)).2
          = Scalar.select (Scalar.cmpf .ogt (word x ⟨k, h⟩) (pick x k).1) (Scf.iv 1#32 1#32 k) (pick x k).2 := by
        unfold pickStep; rw [dif_pos h]
      rw [e]
      unfold Scalar.select
      split
      · have e : (Scf.iv 1#32 1#32 k).toNat = k + 1 := iv_toNat ⟨k, h6⟩
        rw [e]; omega
      · omega
    · have e : pickStep x k (pick x k) = pick x k := by unfold pickStep; exact dif_neg h
      rw [e]; omega

/-- The codebook section taken: the position of the first largest word. -/
def pos (x : Vec F S7 .f32) : BitVec 32 := (pick x k0_t1_loop.trips).2

theorem pos_le (x : Vec F S7 .f32) : (pos x).toNat ≤ 6 := (pick_bound x _).2

/-- The section's rows lie inside the codebook array. -/
theorem chk_pos (x : Vec F S7 .f32) : k0_chk1 (pos x) := by
  have h := pos_le x
  have e : (Scalar.muli (pos x) 256#32).toNat = (pos x).toNat * 256 := by
    unfold Scalar.muli IntOp.muli
    rw [BitVec.toNat_mul]
    exact Nat.mod_eq_of_lt (by show (pos x).toNat * 256 < 2 ^ 32; omega)
  intro a
  fin_cases a
  · show (Scalar.muli (pos x) 256#32).toNat + 256 ≤ 1792
    omega
  · show 0 + 256 ≤ 256
    omega

/-- The section of the codebook array the kernel loads. -/
def sect (x : Vec F S7 .f32) (w : Vec F S1792x256 .f32) : Vec F S256x256 .f32 :=
  View.ld w (Rect.unit (s := S1792x256) (k0_off2 (pos x)) S256x256.size (k0_off2_inb (pos x) (chk_pos x)))

end Cert.KernelIdeal.Hand

end
-- ==== Proof.KernelIdeal.Run.lean ====
module

public import proofs.«01_k».proof.Proof.KernelIdeal.Pick

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What one grid point computes -/

/-- The one-hot rows of a block: lane `j` of a row is one where `j` is the row's code. -/
def encBlk (x0 : Vec F S7 .f32) (x1 : Vec F S1x1024x256 .f32) (x2 : Vec F S1792x256 .f32) : Vec F S1024x256 .f32 := k0_pay12 (sect x0 x2) x1
/-- The codes of a block's rows. -/
def idxBlk (x0 : Vec F S7 .f32) (x1 : Vec F S1x1024x256 .f32) (x2 : Vec F S1792x256 .f32) : Vec F S1024x1 .i32 := k0_pay11 (sect x0 x2) x1
/-- The quantized rows of a block, transposed. -/
def zqtBlk (x0 : Vec F S7 .f32) (x1 : Vec F S1x1024x256 .f32) (x2 : Vec F S1792x256 .f32) : Vec F S1x256x1024 .f32 :=
  k0_pay1 (k0_pay8 (sect x0 x2)) (k0_pay12 (sect x0 x2) x1)
/-- The running sum of least distances, one block further. -/
def lossStep (x0 : Vec F S7 .f32) (x1 : Vec F S1x1024x256 .f32) (x2 : Vec F S1792x256 .f32) (a : Vec F S1x1 .f32) : Vec F S1x1 .f32 :=
  fun _ => k0_pay3 (k0_pay10 (sect x0 x2) x1) (a (Shape.Idx.first (numel1_S1x1.symm ▸ Nat.one_pos)))
/-- The running count of each code, one block further. -/
def cntStep (x0 : Vec F S7 .f32) (x1 : Vec F S1x1024x256 .f32) (x2 : Vec F S1792x256 .f32) (a : Vec F S1x256 .f32) : Vec F S1x256 .f32 :=
  k0_pay4 (k0_pay12 (sect x0 x2) x1) a
/-- The sums a run starts from. -/
def loss0 : Vec F S1x1 .f32 := fun _ => Scalar.ofBits .f32 0x00000000#32
/-- The loss, from the finished sum. -/
def lossOut (a : Vec F S1x1 .f32) : Vec F S1x1 .f32 := k0_pay5 (a (Shape.Idx.first (numel1_S1x1.symm ▸ Nat.one_pos)))

/-- The body's first condition: the point is the first. -/
abbrev cond0_0 (i : grid0.Coords) : Prop := (Scalar.cmpi .ne (Scalar.extui (Scalar.cmpi .eq (BitVec.ofNat 32 (i 0).val) 0#32)) 0#32) = 1#1
/-- The body's second condition: the point is the last. -/
abbrev cond0_1 (i : grid0.Coords) : Prop := k0_cond2 i = 1#1

section
variable (c : Dev nD) (i : grid0.Coords) (arg1 : Memref sig .tc .smem S7 .f32) (harg1 : arg1.IsWhole) (arg2 : Memref sig .tc .vmem S1x1024x256 .f32) (harg2 : arg2.IsWhole) (arg3 : Memref sig .tc .vmem S1792x256 .f32) (harg3 : arg3.IsWhole) (arg4 : Memref sig .tc .vmem S1x256x1024 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1024x256 .f32) (harg7 : arg7.IsWhole) (arg8 : Memref sig .tc .vmem S1024x1 .i32) (harg8 : arg8.IsWhole) (arg9 : Memref sig .tc .smem S1x1 .f32) (harg9 : arg9.IsWhole) (arg10 : Memref sig .tc .vmem S1x256 .f32) (harg10 : arg10.IsWhole)

/-- The ten buffers the body is handed, each wholly owned at the named contents. -/
def held (x0 : Vec F S7 .f32) (x1 : Vec F S1x1024x256 .f32) (x2 : Vec F S1792x256 .f32) (y3 : Vec F S1x256x1024 .f32) (y4 y5 : Vec F S1x1 .f32) (y6 : Vec F S1024x256 .f32) (y7 : Vec F S1024x1 .i32) (s0 : Vec F S1x1 .f32) (s1 : Vec F S1x256 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4 ∗ owns (c : Thread nD τ) arg6 fullShare y5 ∗ owns (c : Thread nD τ) arg7 fullShare y6 ∗ owns (c : Thread nD τ) arg8 fullShare y7 ∗ owns (c : Thread nD τ) arg9 fullShare s0 ∗ owns (c : Thread nD τ) arg10 fullShare s1)

/-- The first word as the body loads it. -/
theorem word0_eq (x : Vec F S7 .f32) :
    ((View.readAt (Elt F) arg1.view (Rect.unit (s := S7) ![0] S1.size inb_S7_S1_0).toLoadRect (harg1.unread x) (Shape.Idx.first (numel1_S1.symm ▸ Nat.one_pos)), 0#32) : Elt F .f32 × BitVec 32) = pick x 0 := by
  rw [Memref.IsWhole.readAt_unread harg1 x]; rfl

/-- What the loop leaves is the largest word and its position. -/
theorem st_word (x : Vec F S7 .f32) :
    st_k0_t1 (F := F) Variants.none c none i arg1 harg1 arg2 harg2 arg3 harg3 arg4 harg4 arg5 harg5 arg6 harg6 arg7 harg7 arg8 harg8 arg9 harg9 arg10 harg10 (harg1.unread x) (View.readAt (Elt F) arg1.view (Rect.unit (s := S7) ![0] S1.size inb_S7_S1_0).toLoadRect (harg1.unread x) (Shape.Idx.first (numel1_S1.symm ▸ Nat.one_pos)), 0#32) k0_t1_loop.trips = pick x k0_t1_loop.trips := by
  rw [word0_eq, st_eq_pick]

/-- The assumed side condition holds of the loop's position. -/
theorem chk_st (x : Vec F S7 .f32) :
    k0_chk1 (st_k0_t1 (F := F) Variants.none c none i arg1 harg1 arg2 harg2 arg3 harg3 arg4 harg4 arg5 harg5 arg6 harg6 arg7 harg7 arg8 harg8 arg9 harg9 arg10 harg10 (harg1.unread x) (View.readAt (Elt F) arg1.view (Rect.unit (s := S7) ![0] S1.size inb_S7_S1_0).toLoadRect (harg1.unread x) (Shape.Idx.first (numel1_S1.symm ▸ Nat.one_pos)), 0#32) k0_t1_loop.trips).2 := by
  rw [st_word]; exact chk_pos x

/-- The section loaded at a position is the named one when the position is the named one. -/
theorem load_at (x : Vec F S7 .f32) (w : Vec F S1792x256 .f32) (p : BitVec 32) (hp : p = pos x) (h : k0_chk1 p) :
    View.readAt (Elt F) arg3.view (Rect.unit (s := S1792x256) (k0_off2 p) S256x256.size (k0_off2_inb p h)).toLoadRect (harg3.unread w) = sect x w := by
  subst hp
  funext y
  exact Memref.IsWhole.readAt_unread harg3 w _ y

/-- The section of the codebook array, as the body loads it. -/
theorem load_sect (x : Vec F S7 .f32) (w : Vec F S1792x256 .f32) :
    View.readAt (Elt F) arg3.view (Rect.unit (s := S1792x256) (k0_off2 (st_k0_t1 (F := F) Variants.none c none i arg1 harg1 arg2 harg2 arg3 harg3 arg4 harg4 arg5 harg5 arg6 harg6 arg7 harg7 arg8 harg8 arg9 harg9 arg10 harg10 (harg1.unread x) (View.readAt (Elt F) arg1.view (Rect.unit (s := S7) ![0] S1.size inb_S7_S1_0).toLoadRect (harg1.unread x) (Shape.Idx.first (numel1_S1.symm ▸ Nat.one_pos)), 0#32) k0_t1_loop.trips).2) S256x256.size (k0_off2_inb _ (chk_st c i arg1 harg1 arg2 harg2 arg3 harg3 arg4 harg4 arg5 harg5 arg6 harg6 arg7 harg7 arg8 harg8 arg9 harg9 arg10 harg10 x))).toLoadRect (harg3.unread w) = sect x w :=
  load_at arg3 harg3 x w _ (congrArg Prod.snd (st_word c i arg1 harg1 arg2 harg2 arg3 harg3 arg4 harg4 arg5 harg5 arg6 harg6 arg7 harg7 arg8 harg8 arg9 harg9 arg10 harg10 x)) (chk_st c i arg1 harg1 arg2 harg2 arg3 harg3 arg4 harg4 arg5 harg5 arg6 harg6 arg7 harg7 arg8 harg8 arg9 harg9 arg10 harg10 x)

/-- The block of rows, as the body loads it. -/
theorem load_z (z : Vec F S1x1024x256 .f32) :
    View.readAt (Elt F) arg2.view (Rect.unit (s := S1x1024x256) ![0, 0, 0] S1x1024x256.size inb_S1x1024x256_S1x1024x256_0_0_0).toLoadRect (harg2.unread z) = z := by
  rw [View.readAt_full, harg2.read_unread]

/-- The running sum, as the body loads it. -/
theorem load_s0 (s : Vec F S1x1 .f32) :
    View.readAt (Elt F) arg9.view (Rect.unit (s := S1x1) ![0, 0] S1x1.size inb_S1x1_S1x1_0_0).toLoadRect (harg9.unread s) = s := by
  rw [View.readAt_full, harg9.read_unread]

/-- The running counts, as the body loads them. -/
theorem load_s1 (s : Vec F S1x256 .f32) :
    View.readAt (Elt F) arg10.view (Rect.unit (s := S1x256) ![0, 0] S1x256.size inb_S1x256_S1x256_0_0).toLoadRect (harg10.unread s) = s := by
  rw [View.readAt_full, harg10.read_unread]

set_option maxHeartbeats 4000000 in
/-- The body at the first point: the sums start from zero. -/
theorem run_A (hc0 : cond0_0 i) (hc1 : ¬cond0_1 i)
    (x0 : Vec F S7 .f32) (x1 : Vec F S1x1024x256 .f32) (x2 : Vec F S1792x256 .f32) (y3 : Vec F S1x256x1024 .f32) (y4 y5 : Vec F S1x1 .f32) (y6 : Vec F S1024x256 .f32) (y7 : Vec F S1024x1 .i32) (s0 : Vec F S1x1 .f32) (s1 : Vec F S1x256 .f32) (E : Set ℕ) (K : PUnit → sProp 𝕄) :
    iprop(held c arg1 arg2 arg3 arg4 arg5 arg6 arg7 arg8 arg9 arg10 x0 x1 x2 y3 y4 y5 y6 y7 s0 s1
        ∗ (held c arg1 arg2 arg3 arg4 arg5 arg6 arg7 arg8 arg9 arg10 x0 x1 x2 (zqtBlk x0 x1 x2) (y4) (y5) (encBlk x0 x1 x2) (idxBlk x0 x1 x2) (lossStep x0 x1 x2 (loss0)) (cntStep x0 x1 x2 (k0_pay2)) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K := by
  simp only [cc0__vq_body_eq_skeleton]; unfold cc0__vq_body_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩⟩, Hk⟩
  obtain rfl := harg1.eq_unread hf0; obtain rfl := harg2.eq_unread hf1; obtain rfl := harg3.eq_unread hf2; obtain rfl := harg5.eq_unread hf4; obtain rfl := harg6.eq_unread hf5; obtain rfl := harg9.eq_unread hfs0; obtain rfl := harg10.eq_unread hfs1
  sl_exec (disch := first | sl_exact hc0 | sl_exact hc1 | exact chk_st c i arg1 harg1 arg2 harg2 arg3 harg3 arg4 harg4 arg5 harg5 arg6 harg6 arg7 harg7 arg8 harg8 arg9 harg9 arg10 harg10 x0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_full]
    exact congrArg₂ (fun w z => k0_pay1 (k0_pay8 w) (k0_pay12 w z)) (load_sect c i arg1 harg1 arg2 harg2 arg3 harg3 arg4 harg4 arg5 harg5 arg6 harg6 arg7 harg7 arg8 harg8 arg9 harg9 arg10 harg10 x0 x2) (load_z arg2 harg2 x1)
  isplitl [H4]
  · iexists _; isplitr
    swap; · iexact H4
    ipureintro
    exact harg5.read_unread _
  isplitl [H5]
  · iexists _; isplitr
    swap; · iexact H5
    ipureintro
    exact harg6.read_unread _
  isplitl [H6]
  · iexists _; isplitr
    swap; · iexact H6
    ipureintro
    rw [View.read_writes_full]
    exact congrArg₂ (fun w z => k0_pay12 w z) (load_sect c i arg1 harg1 arg2 harg2 arg3 harg3 arg4 harg4 arg5 harg5 arg6 harg6 arg7 harg7 arg8 harg8 arg9 harg9 arg10 harg10 x0 x2) (load_z arg2 harg2 x1)
  isplitl [H7]
  · iexists _; isplitr
    swap; · iexact H7
    ipureintro
    rw [View.read_writes_full]
    exact congrArg₂ (fun w z => k0_pay11 w z) (load_sect c i arg1 harg1 arg2 harg2 arg3 harg3 arg4 harg4 arg5 harg5 arg6 harg6 arg7 harg7 arg8 harg8 arg9 harg9 arg10 harg10 x0 x2) (load_z arg2 harg2 x1)
  isplitl [HS0]
  · iexists _; isplitr
    swap; · iexact HS0
    ipureintro
    rw [View.read_writes_full]
    unfold run_A.sl.r_6
    exact congrArg₂ (fun w z => (fun _ => k0_pay3 (k0_pay10 w z) _ : Vec F S1x1 .f32)) (load_sect c i arg1 harg1 arg2 harg2 arg3 harg3 arg4 harg4 arg5 harg5 arg6 harg6 arg7 harg7 arg8 harg8 arg9 harg9 arg10 harg10 x0 x2) (load_z arg2 harg2 x1)
  iexists _; isplitr
  swap; · iexact HS1
  ipureintro
  rw [View.read_writes_full]
  unfold run_A.sl.v51
  refine (congrArg (k0_pay4 (F := F) _) (View.readCov_full arg10.view inb_S1x256_S1x256_0_0 inb_S1x256_S1x256_0_0 _ _)).trans ?_
  exact congrArg₂ (fun w z => k0_pay4 (k0_pay12 w z) _) (load_sect c i arg1 harg1 arg2 harg2 arg3 harg3 arg4 harg4 arg5 harg5 arg6 harg6 arg7 harg7 arg8 harg8 arg9 harg9 arg10 harg10 x0 x2) (load_z arg2 harg2 x1)

set_option maxHeartbeats 4000000 in
/-- The body at a point that is neither first nor last: the sums go on. -/
theorem run_B (hc0 : ¬cond0_0 i) (hc1 : ¬cond0_1 i)
    (x0 : Vec F S7 .f32) (x1 : Vec F S1x1024x256 .f32) (x2 : Vec F S1792x256 .f32) (y3 : Vec F S1x256x1024 .f32) (y4 y5 : Vec F S1x1 .f32) (y6 : Vec F S1024x256 .f32) (y7 : Vec F S1024x1 .i32) (s0 : Vec F S1x1 .f32) (s1 : Vec F S1x256 .f32) (E : Set ℕ) (K : PUnit → sProp 𝕄) :
    iprop(held c arg1 arg2 arg3 arg4 arg5 arg6 arg7 arg8 arg9 arg10 x0 x1 x2 y3 y4 y5 y6 y7 s0 s1
        ∗ (held c arg1 arg2 arg3 arg4 arg5 arg6 arg7 arg8 arg9 arg10 x0 x1 x2 (zqtBlk x0 x1 x2) (y4) (y5) (encBlk x0 x1 x2) (idxBlk x0 x1 x2) (lossStep x0 x1 x2 (s0)) (cntStep x0 x1 x2 (s1)) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K := by
  simp only [cc0__vq_body_eq_skeleton]; unfold cc0__vq_body_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩⟩, Hk⟩
  obtain rfl := harg1.eq_unread hf0; obtain rfl := harg2.eq_unread hf1; obtain rfl := harg3.eq_unread hf2; obtain rfl := harg5.eq_unread hf4; obtain rfl := harg6.eq_unread hf5; obtain rfl := harg9.eq_unread hfs0; obtain rfl := harg10.eq_unread hfs1
  sl_exec (disch := first | sl_exact hc0 | sl_exact hc1 | exact chk_st c i arg1 harg1 arg2 harg2 arg3 harg3 arg4 harg4 arg5 harg5 arg6 harg6 arg7 harg7 arg8 harg8 arg9 harg9 arg10 harg10 x0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_full]
    exact congrArg₂ (fun w z => k0_pay1 (k0_pay8 w) (k0_pay12 w z)) (load_sect c i arg1 harg1 arg2 harg2 arg3 harg3 arg4 harg4 arg5 harg5 arg6 harg6 arg7 harg7 arg8 harg8 arg9 harg9 arg10 harg10 x0 x2) (load_z arg2 harg2 x1)
  isplitl [H4]
  · iexists _; isplitr
    swap; · iexact H4
    ipureintro
    exact harg5.read_unread _
  isplitl [H5]
  · iexists _; isplitr
    swap; · iexact H5
    ipureintro
    exact harg6.read_unread _
  isplitl [H6]
  · iexists _; isplitr
    swap; · iexact H6
    ipureintro
    rw [View.read_writes_full]
    exact congrArg₂ (fun w z => k0_pay12 w z) (load_sect c i arg1 harg1 arg2 harg2 arg3 harg3 arg4 harg4 arg5 harg5 arg6 harg6 arg7 harg7 arg8 harg8 arg9 harg9 arg10 harg10 x0 x2) (load_z arg2 harg2 x1)
  isplitl [H7]
  · iexists _; isplitr
    swap; · iexact H7
    ipureintro
    rw [View.read_writes_full]
    exact congrArg₂ (fun w z => k0_pay11 w z) (load_sect c i arg1 harg1 arg2 harg2 arg3 harg3 arg4 harg4 arg5 harg5 arg6 harg6 arg7 harg7 arg8 harg8 arg9 harg9 arg10 harg10 x0 x2) (load_z arg2 harg2 x1)
  isplitl [HS0]
  · iexists _; isplitr
    swap; · iexact HS0
    ipureintro
    rw [View.read_writes_full]
    unfold run_B.sl.r_5
    rw [load_s0 arg9 harg9 s0]
    exact congrArg₂ (fun w z => (fun _ => k0_pay3 (k0_pay10 w z) _ : Vec F S1x1 .f32)) (load_sect c i arg1 harg1 arg2 harg2 arg3 harg3 arg4 harg4 arg5 harg5 arg6 harg6 arg7 harg7 arg8 harg8 arg9 harg9 arg10 harg10 x0 x2) (load_z arg2 harg2 x1)
  iexists _; isplitr
  swap; · iexact HS1
  ipureintro
  rw [View.read_writes_full]
  rw [load_s1 arg10 harg10 s1]
  exact congrArg₂ (fun w z => k0_pay4 (k0_pay12 w z) _) (load_sect c i arg1 harg1 arg2 harg2 arg3 harg3 arg4 harg4 arg5 harg5 arg6 harg6 arg7 harg7 arg8 harg8 arg9 harg9 arg10 harg10 x0 x2) (load_z arg2 harg2 x1)

set_option maxHeartbeats 4000000 in
/-- The body at the last point: the sums go on, and the two figures are stored. -/
theorem run_C (hc0 : ¬cond0_0 i) (hc1 : cond0_1 i)
    (x0 : Vec F S7 .f32) (x1 : Vec F S1x1024x256 .f32) (x2 : Vec F S1792x256 .f32) (y3 : Vec F S1x256x1024 .f32) (y4 y5 : Vec F S1x1 .f32) (y6 : Vec F S1024x256 .f32) (y7 : Vec F S1024x1 .i32) (s0 : Vec F S1x1 .f32) (s1 : Vec F S1x256 .f32) (E : Set ℕ) (K : PUnit → sProp 𝕄) :
    iprop(held c arg1 arg2 arg3 arg4 arg5 arg6 arg7 arg8 arg9 arg10 x0 x1 x2 y3 y4 y5 y6 y7 s0 s1
        ∗ (held c arg1 arg2 arg3 arg4 arg5 arg6 arg7 arg8 arg9 arg10 x0 x1 x2 (zqtBlk x0 x1 x2) (lossOut (lossStep x0 x1 x2 s0)) (k0_pay6 (cntStep x0 x1 x2 s1)) (encBlk x0 x1 x2) (idxBlk x0 x1 x2) (lossStep x0 x1 x2 (s0)) (cntStep x0 x1 x2 (s1)) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K := by
  simp only [cc0__vq_body_eq_skeleton]; unfold cc0__vq_body_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩⟩, Hk⟩
  obtain rfl := harg1.eq_unread hf0; obtain rfl := harg2.eq_unread hf1; obtain rfl := harg3.eq_unread hf2; obtain rfl := harg5.eq_unread hf4; obtain rfl := harg6.eq_unread hf5; obtain rfl := harg9.eq_unread hfs0; obtain rfl := harg10.eq_unread hfs1
  sl_exec (disch := first | sl_exact hc0 | sl_exact hc1 | exact chk_st c i arg1 harg1 arg2 harg2 arg3 harg3 arg4 harg4 arg5 harg5 arg6 harg6 arg7 harg7 arg8 harg8 arg9 harg9 arg10 harg10 x0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_full]
    exact congrArg₂ (fun w z => k0_pay1 (k0_pay8 w) (k0_pay12 w z)) (load_sect c i arg1 harg1 arg2 harg2 arg3 harg3 arg4 harg4 arg5 harg5 arg6 harg6 arg7 harg7 arg8 harg8 arg9 harg9 arg10 harg10 x0 x2) (load_z arg2 harg2 x1)
  isplitl [H4]
  · iexists _; isplitr
    swap; · iexact H4
    ipureintro
    rw [View.read_writes_full]
    unfold run_C.sl.r_6
    unfold run_C.sl.r_5
    rw [load_s0 arg9 harg9 s0]
    exact congrArg₂ (fun w z => k0_pay5 (k0_pay3 (k0_pay10 w z) _)) (load_sect c i arg1 harg1 arg2 harg2 arg3 harg3 arg4 harg4 arg5 harg5 arg6 harg6 arg7 harg7 arg8 harg8 arg9 harg9 arg10 harg10 x0 x2) (load_z arg2 harg2 x1)
  isplitl [H5]
  · iexists _; isplitr
    swap; · iexact H5
    ipureintro
    rw [View.read_writes_full]
    unfold run_C.sl.v66
    refine (congrArg (k0_pay6 (F := F)) (View.readCov_full arg10.view inb_S1x256_S1x256_0_0 inb_S1x256_S1x256_0_0 _ _)).trans ?_
    rw [load_s1 arg10 harg10 s1]
    exact congrArg₂ (fun w z => k0_pay6 (k0_pay4 (k0_pay12 w z) _)) (load_sect c i arg1 harg1 arg2 harg2 arg3 harg3 arg4 harg4 arg5 harg5 arg6 harg6 arg7 harg7 arg8 harg8 arg9 harg9 arg10 harg10 x0 x2) (load_z arg2 harg2 x1)
  isplitl [H6]
  · iexists _; isplitr
    swap; · iexact H6
    ipureintro
    rw [View.read_writes_full]
    exact congrArg₂ (fun w z => k0_pay12 w z) (load_sect c i arg1 harg1 arg2 harg2 arg3 harg3 arg4 harg4 arg5 harg5 arg6 harg6 arg7 harg7 arg8 harg8 arg9 harg9 arg10 harg10 x0 x2) (load_z arg2 harg2 x1)
  isplitl [H7]
  · iexists _; isplitr
    swap; · iexact H7
    ipureintro
    rw [View.read_writes_full]
    exact congrArg₂ (fun w z => k0_pay11 w z) (load_sect c i arg1 harg1 arg2 harg2 arg3 harg3 arg4 harg4 arg5 harg5 arg6 harg6 arg7 harg7 arg8 harg8 arg9 harg9 arg10 harg10 x0 x2) (load_z arg2 harg2 x1)
  isplitl [HS0]
  · iexists _; isplitr
    swap; · iexact HS0
    ipureintro
    rw [View.read_writes_full]
    unfold run_C.sl.r_5
    rw [load_s0 arg9 harg9 s0]
    exact congrArg₂ (fun w z => (fun _ => k0_pay3 (k0_pay10 w z) _ : Vec F S1x1 .f32)) (load_sect c i arg1 harg1 arg2 harg2 arg3 harg3 arg4 harg4 arg5 harg5 arg6 harg6 arg7 harg7 arg8 harg8 arg9 harg9 arg10 harg10 x0 x2) (load_z arg2 harg2 x1)
  iexists _; isplitr
  swap; · iexact HS1
  ipureintro
  refine (View.read_writes_full arg10.view _ inb_S1x256_S1x256_0_0 _ _).trans ?_
  rw [load_s1 arg10 harg10 s1]
  exact congrArg₂ (fun w z => k0_pay4 (k0_pay12 w z) _) (load_sect c i arg1 harg1 arg2 harg2 arg3 harg3 arg4 harg4 arg5 harg5 arg6 harg6 arg7 harg7 arg8 harg8 arg9 harg9 arg10 harg10 x0 x2) (load_z arg2 harg2 x1)

end

end Cert.KernelIdeal.Hand

end
-- ==== Proof.KernelIdeal.Launch.lean ====
module

public import proofs.«01_k».proof.Proof.KernelIdeal.Run

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is which -/

/-- The first condition holds at the first point only. -/
theorem hcond0_0 : ∀ t : Fin cfg0.N, cond0_0 (grid0.coords t) ↔ t.val = 0 := by decide +kernel
/-- The second condition holds at the last point only. -/
theorem hcond0_1 : ∀ t : Fin cfg0.N, cond0_1 (grid0.coords t) ↔ t.val = 63 := by decide +kernel
/-- The two scalar outputs are idle before the last point, and nothing is written back there. -/
theorem idle4 : ∀ t : Fin cfg0.N, ¬cond0_1 (grid0.coords t) → cfg0.idle 4 (grid0.coords t) = true := by decide +kernel
theorem noFlush4 : ∀ t : Fin cfg0.N, ¬cond0_1 (grid0.coords t) → (cfg0.win 4).flush t = false := by decide +kernel
theorem live4 : ∀ t : Fin cfg0.N, cond0_1 (grid0.coords t) → cfg0.idle 4 (grid0.coords t) = false := by decide +kernel
theorem idle5 : ∀ t : Fin cfg0.N, ¬cond0_1 (grid0.coords t) → cfg0.idle 5 (grid0.coords t) = true := by decide +kernel
theorem noFlush5 : ∀ t : Fin cfg0.N, ¬cond0_1 (grid0.coords t) → (cfg0.win 5).flush t = false := by decide +kernel
theorem live5 : ∀ t : Fin cfg0.N, cond0_1 (grid0.coords t) → cfg0.idle 5 (grid0.coords t) = false := by decide +kernel

/-! ## The buffers at a point -/

abbrev ms0_0 (t : Fin cfg0.N) : Memref sig .tc .smem S7 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .i32 := win0_7.stage (cfg0.slots t 7)
abbrev hs0_7 (t : Fin cfg0.N) : (ms0_7 t).IsWhole := hstage0_7 ((cfg0.slots t 7).cast nbuf0_7)
abbrev scM0_0 : Memref sig .tc .smem S1x1 .f32 := Memref.whole cc0_scratch0
abbrev scM0_1 : Memref sig .tc .vmem S1x256 .f32 := Memref.whole cc0_scratch1

/-- The scratch buffers at anything, as the launch hands them over. -/
theorem PhiA0_eq (c : Dev nD) :
    (Pipeline.ΦA spec0 c : sProp 𝕄)
      = iprop(iprop((∃ d, owns (c : Thread nD τ) scM0_1 fullShare d) ∗ (∃ d, owns (c : Thread nD τ) scM0_0 fullShare d)) ∗ (∃ r, prngReg c r)) := by
  unfold Pipeline.ΦA; rw [scopedRest0_eq]; simp only [scM0_0, scM0_1, owns_whole]; try rfl

/-- The running sum before point `n`. -/
def lossAt (c : Dev nD) : ℕ → Vec F S1x1 .f32
  | 0 => loss0
  | n + 1 => if h : n < cfg0.N then lossStep (iblk m c 0 ⟨n, h⟩) (iblk m c 1 ⟨n, h⟩) (iblk m c 2 ⟨n, h⟩) (lossAt c n) else lossAt c n
/-- The running counts before point `n`. -/
def cntAt (c : Dev nD) : ℕ → Vec F S1x256 .f32
  | 0 => k0_pay2
  | n + 1 => if h : n < cfg0.N then cntStep (iblk m c 0 ⟨n, h⟩) (iblk m c 1 ⟨n, h⟩) (iblk m c 2 ⟨n, h⟩) (cntAt c n) else cntAt c n

theorem lossAt_succ (c : Dev nD) (t : Fin cfg0.N) :
    lossAt m c (t.val + 1) = lossStep (iblk m c 0 t) (iblk m c 1 t) (iblk m c 2 t) (lossAt m c t.val) := dif_pos t.isLt
theorem cntAt_succ (c : Dev nD) (t : Fin cfg0.N) :
    cntAt m c (t.val + 1) = cntStep (iblk m c 0 t) (iblk m c 1 t) (iblk m c 2 t) (cntAt m c t.val) := dif_pos t.isLt

/-- What is held between points: anything before the first, then the running sum and counts. -/
def PhiS (c : Dev nD) : ℕ → sProp 𝕄
  | 0 => Pipeline.ΦA spec0 c
  | n + 1 => iprop(iprop(owns (c : Thread nD τ) scM0_1 fullShare (cntAt m c (n + 1)) ∗ owns (c : Thread nD τ) scM0_0 fullShare (lossAt m c (n + 1))) ∗ (∃ r, prngReg c r))

theorem PhiS_pos (c : Dev nD) (n : ℕ) (hz : n ≠ 0) :
    PhiS m c n = iprop(iprop(owns (c : Thread nD τ) scM0_1 fullShare (cntAt m c n) ∗ owns (c : Thread nD τ) scM0_0 fullShare (lossAt m c n)) ∗ (∃ r, prngReg c r)) := by
  cases n with
  | zero => exact absurd rfl hz
  | succ n => rfl

/-- The pipeline's proof data: the arrays as the region finds them, each buffer after the body at its named contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => zqtBlk (iblk m c 0 t) (iblk m c 1 t) (iblk m c 2 t)
    | ⟨4, _⟩ => lossOut (lossAt m c (t.val + 1))
    | ⟨5, _⟩ => k0_pay6 (cntAt m c (t.val + 1))
    | ⟨6, _⟩ => encBlk (iblk m c 0 t) (iblk m c 1 t) (iblk m c 2 t)
    | ⟨7, _⟩ => idxBlk (iblk m c 0 t) (iblk m c 1 t) (iblk m c 2 t)
  Φ t := PhiS m c t.val
  q _ := fullShare
  owed _ := 0

theorem A_eq (c : Dev nD) (w : Fin cfg0.W) : (dats m 0 c).A w = V m c (Pipeline.arrRef spec0 w) := by dsimp only [dats]
theorem Phi_eq (c : Dev nD) (t : Fin (cfg0.N + 1)) : (dats m 0 c).Φ t = PhiS m c t.val := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = zqtBlk (iblk m c 0 t) (iblk m c 1 t) (iblk m c 2 t) := by dsimp only [dats]
theorem after0_4 (c : Dev nD) (t : Fin cfg0.N) : (dats m 0 c).after 4 t = lossOut (lossAt m c (t.val + 1)) := by dsimp only [dats]
theorem after0_5 (c : Dev nD) (t : Fin cfg0.N) : (dats m 0 c).after 5 t = k0_pay6 (cntAt m c (t.val + 1)) := by dsimp only [dats]
theorem after0_6 (c : Dev nD) (t : Fin cfg0.N) : (dats m 0 c).after 6 t = encBlk (iblk m c 0 t) (iblk m c 1 t) (iblk m c 2 t) := by dsimp only [dats]
theorem after0_7 (c : Dev nD) (t : Fin cfg0.N) : (dats m 0 c).after 7 t = idxBlk (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point: the point is the first, the last, or between; the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [Phi_eq m c t.succ, Phi_eq m c t.castSucc, Fin.val_succ, Fin.val_castSucc, PhiS_pos m c (t.val + 1) (Nat.succ_ne_zero _)]
  rw [lossAt_succ, cntAt_succ]
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  rw [show (dats m 0 c).leavesExact 3 t = owns (c : Thread nD τ) (ms0_3 t) fullShare ((dats m 0 c).after 3 t) from by
    unfold Dat.leavesExact; rw [show cfg0.idle 3 (grid0.coords t) = false from rfl], after0_3]
  rw [show (dats m 0 c).leavesExact 6 t = owns (c : Thread nD τ) (ms0_6 t) fullShare ((dats m 0 c).after 6 t) from by
    unfold Dat.leavesExact; rw [show cfg0.idle 6 (grid0.coords t) = false from rfl], after0_6]
  rw [show (dats m 0 c).leavesExact 7 t = owns (c : Thread nD τ) (ms0_7 t) fullShare ((dats m 0 c).after 7 t) from by
    unfold Dat.leavesExact; rw [show cfg0.idle 7 (grid0.coords t) = false from rfl], after0_7]
  by_cases h0 : t.val = 0
  · have h1 : ¬t.val = 63 := by omega
    rw [h0, show PhiS m c 0 = Pipeline.ΦA spec0 c from rfl, PhiA0_eq, show lossAt m c 0 = loss0 from rfl, show cntAt m c 0 = k0_pay2 from rfl]
    rw [Dat.leavesExact_idle (dats m 0 c) 4 t (idle4 t (fun h => h1 ((hcond0_1 t).mp h))) (noFlush4 t (fun h => h1 ((hcond0_1 t).mp h)))]
    rw [Dat.leavesExact_idle (dats m 0 c) 5 t (idle5 t (fun h => h1 ((hcond0_1 t).mp h))) (noFlush5 t (fun h => h1 ((hcond0_1 t).mp h)))]
    iintro ⟨⟨⟨⟨%e1, HS1⟩, ⟨%e0, HS0⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) _ _ _ _ _ _ _ Set.univ _)
    unfold held
    isplitl [H0 H1 H2 H3 H4 H5 H6 H7 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iexact HS1
    iintro ⟨H0, H1, H2, H3, H4, H5, H6, H7, HS0, HS1⟩
    isplitl [HS1 HS0 Hg]
    · isplitl [HS1 HS0]
      · isplitl [HS1]; · iexact HS1
        iexact HS0
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iexact H7
  · rw [PhiS_pos m c _ h0]
    by_cases h1 : t.val = 63
    · rw [show (dats m 0 c).leavesExact 4 t = owns (c : Thread nD τ) (ms0_4 t) fullShare ((dats m 0 c).after 4 t) from by
        unfold Dat.leavesExact; rw [live4 t ((hcond0_1 t).mpr h1)], after0_4, lossAt_succ]
      rw [show (dats m 0 c).leavesExact 5 t = owns (c : Thread nD τ) (ms0_5 t) fullShare ((dats m 0 c).after 5 t) from by
        unfold Dat.leavesExact; rw [live5 t ((hcond0_1 t).mpr h1)], after0_5, cntAt_succ]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) _ _ _ _ _ _ _ Set.univ _)
      unfold held
      isplitl [H0 H1 H2 H3 H4 H5 H6 H7 HS0 HS1]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iexact HS1
      iintro ⟨H0, H1, H2, H3, H4, H5, H6, H7, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dats m 0 c) 4 t (idle4 t (fun h => h1 ((hcond0_1 t).mp h))) (noFlush4 t (fun h => h1 ((hcond0_1 t).mp h)))]
      rw [Dat.leavesExact_idle (dats m 0 c) 5 t (idle5 t (fun h => h1 ((hcond0_1 t).mp h))) (noFlush5 t (fun h => h1 ((hcond0_1 t).mp h)))]
      iintro ⟨⟨⟨HS1, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) _ _ _ _ _ _ _ Set.univ _)
      unfold held
      isplitl [H0 H1 H2 H3 H4 H5 H6 H7 HS0 HS1]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iexact HS1
      iintro ⟨H0, H1, H2, H3, H4, H5, H6, H7, HS0, HS1⟩
      isplitl [HS1 HS0 Hg]
      · isplitl [HS1 HS0]
        · isplitl [HS1]; · iexact HS1
          iexact HS0
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      iexact H7

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

/-- After the last point the named contents are forgotten. -/
theorem hout (c : Dev nD) : (dats m 0 c).Φ (Fin.last cfg0.N) ⊢ Pipeline.ΦA spec0 c := by
  rw [Phi_eq, PhiS_pos m c _ (by rw [Fin.val_last]; have : cfg0.N = 64 := N_0; omega), PhiA0_eq]
  iintro ⟨⟨HS1, HS0⟩, Hg⟩
  isplitl [HS1 HS0]
  · isplitl [HS1]
    · iexists _; iexact HS1
    iexists _; iexact HS0
  iexact Hg

/-! ## The run and the frame -/

set_option backward.isDefEq.respectTransparency.types false in
set_option maxHeartbeats 800000 in
/-- Every fair execution ends with each array at what the proof data give, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Same.lean ====
module

public import proofs.«01_k».proof.Defs
public import proofs.«01_k».proof.Proof.KernelIdeal.Launch
public import proofs.«01_k».proof.Proof.Gen.Kernel

@[expose] public section

set_option maxRecDepth 16384

noncomputable section

/-! The kernel and its idealization are one program, read at different floats: what is proved of the one at any floats holds of the other. -/

namespace Cert.Value

open Idealize.ShloMosaic Idealize.SL.Sem

variable {F : FTy → Type} [FloatOps F]

/-- The two bodies are the same. -/
theorem body_same : (Cert.Kernel.cc0__vq_body (F := F)) = Cert.KernelIdeal.cc0__vq_body (F := F) := rfl

/-- The two calls of the body are the same. -/
theorem calls_same : (Cert.Kernel.defs₀ (F := F)) = Cert.KernelIdeal.defs₀ (F := F) := by
  unfold Cert.Kernel.defs₀ Cert.KernelIdeal.defs₀
  rw [body_same]
  congr 1
  funext l x
  match l with
  | 0 => rfl
  | ⟨n + 1, h⟩ => exact absurd h (Nat.not_lt.2 (Nat.le_add_left _ _))

/-- The two tables of definitions are the same. -/
theorem defs_same : (Cert.Kernel.defs (F := F)) = Cert.KernelIdeal.defs (F := F) := by
  unfold Cert.Kernel.defs Cert.KernelIdeal.defs
  exact congrArg (Pipeline.defs (Cert.Kernel.pcfgs (F := F))) calls_same

/-- The two main programs are the same. -/
theorem main_same : (Cert.Kernel.main (F := F)) = Cert.KernelIdeal.main (F := F) := rfl

/-- The kernel's frame, from the one proved at any floats. -/
theorem frame_kernel : Cert.quiescent_Kernel := by
  intro m g _
  have h := Cert.KernelIdeal.Hand.frame (F := Bits) m g
  rw [← defs_same, ← main_same] at h
  exact h

end Cert.Value

end
-- ==== Proof.ReferenceIdeal.Stages.lean ====
module

public import proofs.«01_k».proof.Proof.Gen.ReferenceIdeal
public import Idealize.ShloMosaic.Lib.StableHlo.Run

@[expose] public section

set_option maxRecDepth 16384

noncomputable section

/-! The reference's run: `@main` is a straight line of host operations, so it ends with every buffer at the operations' results
composed over the arguments. The composition is named in five stages: the codebook, the distances, the nearest entries, their one-hot rows,
and the three results computed from those. -/

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## The stages -/

/-- The position of the greatest of the seven numbers. -/
def posR (oh : FVec F S7 .f32) : IVec S_ 32 := fun j =>
  (Host.argReduce reducer_argmax_f32_i32 oh (iotaInDim S7 32 0) (constant S_ .f32 0xFF800000#32) (constantI S_ 32 0#32) reducesTo_S7_S_d0 h_S_ j).2
/-- The first row of the codebook at a position, a negative one counted from the end. -/
def startR (p : IVec S_ 32) : IVec S_ 32 :=
  select (cmpi .slt (muli p (constantI S_ 32 256#32)) (constantI S_ 32 0#32)) (addi (muli p (constantI S_ 32 256#32)) (constantI S_ 32 1792#32))
    (muli p (constantI S_ 32 256#32))
/-- The square of entries from a first row and a first column on. -/
def cutR (r k : IVec S_ 32) (W : FVec F S1792x256 .f32) : FVec F S256x256 .f32 :=
  Host.dynamicSlice S256x256 W (fun a => ((![r, k] : Fin 2 → IVec S_ 32) a (Shape.Idx.first h_S_)).toInt) sliceFits_S1792x256_S256x256
/-- The codebook selected. -/
def bookR (oh : FVec F S7 .f32) (W : FVec F S1792x256 .f32) : FVec F S256x256 .f32 := cutR (startR (posR oh)) (constantI S_ 32 0#32) W
/-- The vectors as the rows of one matrix. -/
def flatR (z : FVec F S64x1024x256 .f32) : FVec F S65536x256 .f32 := shapeCast S65536x256 z shapeCasts_S64x1024x256_S65536x256
/-- The squared distances: the squared lengths of a row and of an entry, minus twice their product. -/
def distR (x : FVec F S65536x256 .f32) (w : FVec F S256x256 .f32) : FVec F S65536x256 .f32 :=
  subf
    (addf
      (broadcastInDim S65536x256 ![0, 1] bcast_S65536x1_S65536x256_0_1 (broadcastInDim S65536x1 ![0] bcast_S65536_S65536x1_0
        (Host.reduceAdd (mulf x x) (constant S_ .f32 0x00000000#32) reducesTo_S65536x256_S65536_d1 h_S_)))
      (broadcastInDim S65536x256 ![0, 1] bcast_S1x256_S65536x256_0_1 (broadcastInDim S1x256 ![1] bcast_S256_S1x256_1
        (Host.reduceAdd (mulf w w) (constant S_ .f32 0x00000000#32) reducesTo_S256x256_S256_d1 h_S_))))
    (mulf (broadcastInDim S65536x256 ![] bcast_S_S65536x256 (constant S_ .f32 0x40000000#32))
      (Host.dotGeneral dot_S65536x256_S256x256_S65536x256_1_0_0_1_n_n none x (transpose S256x256 [1, 0] w transposes_S256x256_S256x256_1_0)))
/-- The positions a fold of value and position pairs along the second axis ends at, one for each row. -/
def rowPos {A B : ℕ} {u : Shape} (red : F .f32 × BitVec 32 → F .f32 × BitVec 32 → F .f32 × BitVec 32) (x : FVec F ⟨2, ![A, B]⟩ .f32) (y : IVec ⟨2, ![A, B]⟩ 32)
    (ix : FVec F u .f32) (iy : IVec u 32) (h : (⟨2, ![A, B]⟩ : Shape).ReducesTo [1] ⟨1, ![A]⟩) (hu : 0 < u.numel) : IVec ⟨1, ![A]⟩ 32 := fun j =>
  (Host.argReduce red x y ix iy h hu j).2
/-- The position of the least distance of each row. -/
def nearR (d : FVec F S65536x256 .f32) : IVec S65536 32 :=
  rowPos (A := 65536) (B := 256) reducer_argmin_f32_i32 d (iotaInDim S65536x256 32 1) (constant S_ .f32 0x7F800000#32) (constantI S_ 32 0#32)
    reducesTo_S65536x256_S65536_d1 h_S_
/-- The positions as a column. -/
def colR (n : IVec S65536 32) : IVec S65536x1 32 := broadcastInDim S65536x1 ![0] bcast_S65536_S65536x1_0 n
/-- A position counted from the end of an axis of `k` entries when negative. -/
def fixR (k : BitVec 32) (n : IVec S65536 32) : IVec S65536 32 :=
  select (cmpi .slt n (broadcastInDim S65536 ![] bcast_S_S65536 (constantI S_ 32 0#32))) (addi n (broadcastInDim S65536 ![] bcast_S_S65536 (constantI S_ 32 k))) n
/-- The one-hot rows: zeros, with a one set at each row's position. -/
def rowsR (n : IVec S65536 32) : FVec F S65536x256 .f32 :=
  Host.scatter scatter_S65536x256_S65536x2_S65536_n_01_01_1 (fun _ b => b)
    (broadcastInDim S65536x256 ![] bcast_S_S65536x256 (constant S_ .f32 0x00000000#32))
    (concatenate S65536x2 1 [⟨S65536x1, broadcastInDim S65536x1 ![0] bcast_S65536_S65536x1_0 (fixR 65536#32 (iotaInDim S65536 32 0))⟩,
      ⟨S65536x1, broadcastInDim S65536x1 ![0] bcast_S65536_S65536x1_0 (fixR 256#32 n)⟩] concatenates_S65536x1_S65536x1_S65536x2_d1)
    (broadcastInDim S65536 ![] bcast_S_S65536 (constant S_ .f32 0x3F800000#32))
/-- The entries the one-hot rows pick. -/
def pickedR (e : FVec F S65536x256 .f32) (w : FVec F S256x256 .f32) : FVec F S64x1024x256 .f32 :=
  shapeCast S64x1024x256 (Host.dotGeneral dot_S65536x256_S256x256_S65536x256_1_0_0_1_n_n none e w) shapeCasts_S65536x256_S64x1024x256
/-- The mean squared difference. -/
def meanR (q z : FVec F S64x1024x256 .f32) : FVec F S_ .f32 :=
  Host.divf (Host.reduceAdd (mulf (subf q z) (subf q z)) (constant S_ .f32 0x00000000#32) reducesTo_S64x1024x256_S_d0_1_2 h_S_) (constant S_ .f32 0x4B800000#32)
/-- The loss. -/
def lossR (q z : FVec F S64x1024x256 .f32) : FVec F S_ .f32 := addf (mulf (constant S_ .f32 0x3E800000#32) (meanR q z)) (meanR q z)
/-- The share of the rows at each position. -/
def shareR (e : FVec F S65536x256 .f32) : FVec F S256 .f32 :=
  Host.divf (Host.reduceAdd e (constant S_ .f32 0x00000000#32) reducesTo_S65536x256_S256_d0 h_S_) (broadcastInDim S256 ![] bcast_S_S256 (constant S_ .f32 0x47800000#32))
/-- The perplexity of the shares. -/
def perpR (s : FVec F S256 .f32) : FVec F S_ .f32 :=
  Host.exp (Host.negf (Host.reduceAdd (mulf s (Host.log (addf s (broadcastInDim S256 ![] bcast_S_S256 (constant S_ .f32 0x2EDBE6FF#32)))))
    (constant S_ .f32 0x00000000#32) reducesTo_S256_S_d0 h_S_))
/-- The vectors plus their differences to the picked entries, transposed. -/
def outR (q z : FVec F S64x1024x256 .f32) : FVec F S64x256x1024 .f32 :=
  transpose S64x256x1024 [0, 2, 1] (addf z (subf q z)) transposes_S64x1024x256_S64x256x1024_0_2_1

/-! ## The operations -/

/-- Part 0 of @main's operations. -/
abbrev ops0 : List (HloOp τ sig (Elt F)) :=
  [ reshape main_arg0 main_v0 (rfl : (.f32 : EltTy) = .f32) shapeCasts_S64x1024x256_S65536x256,
    nullary main_call0_v0 (iotaInDim S7 32 0),
    nullary main_call0_cst (constant S_ .f32 0xFF800000#32),
    nullary main_call0_c (constantI S_ 32 0#32),
    quaternary main_arg1 main_call0_v0 main_call0_cst main_call0_c main_call0_v1_0 (fun x y u v j => (Host.argReduce reducer_argmax_f32_i32 x y u v reducesTo_S7_S_d0 h_S_ j).1),
    quaternary main_arg1 main_call0_v0 main_call0_cst main_call0_c main_v1 (fun x y u v j => (Host.argReduce reducer_argmax_f32_i32 x y u v reducesTo_S7_S_d0 h_S_ j).2),
    nullary main_c (constantI S_ 32 256#32),
    binary main_v1 main_c main_v2 (muli),
    nullary main_c_0 (constantI S_ 32 0#32),
    binary main_v2 main_c_0 main_v3 (cmpi .slt),
    nullary main_c_1 (constantI S_ 32 1792#32),
    binary main_v2 main_c_1 main_v4 (addi),
    ternary main_v3 main_v4 main_v2 main_v5 (select),
    nullary main_c_2 (constantI S_ 32 0#32) ]

/-- Part 1 of @main's operations. -/
abbrev ops1 : List (HloOp τ sig (Elt F)) :=
  [ unaryIndexed main_arg2 ![main_v5, main_c_2] ⟨S_, .i32⟩ main_v6 ((fun x i => Host.dynamicSlice S256x256 x (fun k => (i k (Shape.Idx.first h_S_)).toInt) sliceFits_S1792x256_S256x256)) ]

/-- Part 2 of @main's operations. -/
abbrev ops2 : List (HloOp τ sig (Elt F)) :=
  [ binary main_v0 main_v0 main_v7 (mulf),
    nullary main_cst (constant S_ .f32 0x00000000#32),
    binary main_v7 main_cst main_v8 ((fun x v => Host.reduceAdd x v reducesTo_S65536x256_S65536_d1 h_S_)),
    unary main_v8 main_v9 (broadcastInDim S65536x1 ![0] bcast_S65536_S65536x1_0),
    binary main_v6 main_v6 main_v10 (mulf),
    nullary main_cst_3 (constant S_ .f32 0x00000000#32),
    binary main_v10 main_cst_3 main_v11 ((fun x v => Host.reduceAdd x v reducesTo_S256x256_S256_d1 h_S_)),
    unary main_v11 main_v12 (broadcastInDim S1x256 ![1] bcast_S256_S1x256_1),
    unary main_v9 main_v13 (broadcastInDim S65536x256 ![0, 1] bcast_S65536x1_S65536x256_0_1),
    unary main_v12 main_v14 (broadcastInDim S65536x256 ![0, 1] bcast_S1x256_S65536x256_0_1),
    binary main_v13 main_v14 main_v15 (addf),
    unary main_v6 main_v16 ((transpose S256x256 [1, 0] · transposes_S256x256_S256x256_1_0)),
    binary main_v0 main_v16 main_v17 ((fun l r => Host.dotGeneral dot_S65536x256_S256x256_S65536x256_1_0_0_1_n_n none l r)),
    nullary main_cst_4 (constant S_ .f32 0x40000000#32),
    unary main_cst_4 main_v18 (broadcastInDim S65536x256 ![] bcast_S_S65536x256),
    binary main_v18 main_v17 main_v19 (mulf),
    binary main_v15 main_v19 main_v20 (subf) ]

/-- Part 3 of @main's operations. -/
abbrev ops3 : List (HloOp τ sig (Elt F)) :=
  [ nullary main_call1_v0 (iotaInDim S65536x256 32 1),
    nullary main_call1_cst (constant S_ .f32 0x7F800000#32),
    nullary main_call1_c (constantI S_ 32 0#32),
    quaternary main_v20 main_call1_v0 main_call1_cst main_call1_c main_call1_v1_0 (fun x y u v j => (Host.argReduce reducer_argmin_f32_i32 x y u v reducesTo_S65536x256_S65536_d1 h_S_ j).1),
    quaternary main_v20 main_call1_v0 main_call1_cst main_call1_c main_v21 (fun x y u v j => (Host.argReduce reducer_argmin_f32_i32 x y u v reducesTo_S65536x256_S65536_d1 h_S_ j).2) ]

/-- Part 4 of @main's operations. -/
abbrev ops4 : List (HloOp τ sig (Elt F)) :=
  [ unary main_v21 main_v22 (broadcastInDim S65536x1 ![0] bcast_S65536_S65536x1_0),
    nullary main_cst_5 (constant S_ .f32 0x00000000#32),
    unary main_cst_5 main_v23 (broadcastInDim S65536x256 ![] bcast_S_S65536x256),
    nullary main_v24 (iotaInDim S65536 32 0),
    nullary main_c_6 (constantI S_ 32 0#32),
    unary main_c_6 main_v25 (broadcastInDim S65536 ![] bcast_S_S65536),
    binary main_v24 main_v25 main_v26 (cmpi .slt),
    nullary main_c_7 (constantI S_ 32 65536#32),
    unary main_c_7 main_v27 (broadcastInDim S65536 ![] bcast_S_S65536),
    binary main_v24 main_v27 main_v28 (addi),
    ternary main_v26 main_v28 main_v24 main_v29 (select),
    nullary main_c_8 (constantI S_ 32 0#32),
    unary main_c_8 main_v30 (broadcastInDim S65536 ![] bcast_S_S65536),
    binary main_v21 main_v30 main_v31 (cmpi .slt),
    nullary main_c_9 (constantI S_ 32 256#32),
    unary main_c_9 main_v32 (broadcastInDim S65536 ![] bcast_S_S65536),
    binary main_v21 main_v32 main_v33 (addi),
    ternary main_v31 main_v33 main_v21 main_v34 (select),
    unary main_v29 main_v35 (broadcastInDim S65536x1 ![0] bcast_S65536_S65536x1_0),
    unary main_v34 main_v36 (broadcastInDim S65536x1 ![0] bcast_S65536_S65536x1_0),
    binary main_v35 main_v36 main_v37 ((fun a b => concatenate S65536x2 1 [⟨S65536x1, a⟩, ⟨S65536x1, b⟩] concatenates_S65536x1_S65536x1_S65536x2_d1)),
    nullary main_cst_10 (constant S_ .f32 0x3F800000#32),
    unary main_cst_10 main_v38 (broadcastInDim S65536 ![] bcast_S_S65536),
    ternary main_v23 main_v37 main_v38 main_v39 ((fun x i u => Host.scatter scatter_S65536x256_S65536x2_S65536_n_01_01_1 (fun _ b => b) x i u)) ]

/-- Part 5 of @main's operations. -/
abbrev ops5 : List (HloOp τ sig (Elt F)) :=
  [ binary main_v39 main_v6 main_v40 ((fun l r => Host.dotGeneral dot_S65536x256_S256x256_S65536x256_1_0_0_1_n_n none l r)),
    reshape main_v40 main_v41 (rfl : (.f32 : EltTy) = .f32) shapeCasts_S65536x256_S64x1024x256 ]

/-- Part 6 of @main's operations. -/
abbrev ops6 : List (HloOp τ sig (Elt F)) :=
  [ binary main_v41 main_arg0 main_v42 (subf),
    binary main_v42 main_v42 main_v43 (mulf),
    nullary main_cst_11 (constant S_ .f32 0x00000000#32),
    binary main_v43 main_cst_11 main_v44 ((fun x v => Host.reduceAdd x v reducesTo_S64x1024x256_S_d0_1_2 h_S_)),
    nullary main_cst_12 (constant S_ .f32 0x4B800000#32),
    binary main_v44 main_cst_12 main_v45 (Host.divf),
    nullary main_cst_13 (constant S_ .f32 0x3E800000#32),
    binary main_cst_13 main_v45 main_v46 (mulf),
    binary main_v41 main_arg0 main_v47 (subf),
    binary main_v47 main_v47 main_v48 (mulf),
    nullary main_cst_14 (constant S_ .f32 0x00000000#32),
    binary main_v48 main_cst_14 main_v49 ((fun x v => Host.reduceAdd x v reducesTo_S64x1024x256_S_d0_1_2 h_S_)),
    nullary main_cst_15 (constant S_ .f32 0x4B800000#32),
    binary main_v49 main_cst_15 main_v50 (Host.divf),
    binary main_v46 main_v50 main_v51 (addf),
    binary main_v41 main_arg0 main_v52 (subf),
    binary main_arg0 main_v52 main_v53 (addf),
    nullary main_cst_16 (constant S_ .f32 0x00000000#32),
    binary main_v39 main_cst_16 main_v54 ((fun x v => Host.reduceAdd x v reducesTo_S65536x256_S256_d0 h_S_)),
    nullary main_cst_17 (constant S_ .f32 0x47800000#32),
    unary main_cst_17 main_v55 (broadcastInDim S256 ![] bcast_S_S256),
    binary main_v54 main_v55 main_v56 (Host.divf),
    nullary main_cst_18 (constant S_ .f32 0x2EDBE6FF#32),
    unary main_cst_18 main_v57 (broadcastInDim S256 ![] bcast_S_S256),
    binary main_v56 main_v57 main_v58 (addf),
    unary main_v58 main_v59 (Host.log),
    binary main_v56 main_v59 main_v60 (mulf),
    nullary main_cst_19 (constant S_ .f32 0x00000000#32),
    binary main_v60 main_cst_19 main_v61 ((fun x v => Host.reduceAdd x v reducesTo_S256_S_d0 h_S_)),
    unary main_v61 main_v62 (Host.negf),
    unary main_v62 main_v63 (Host.exp),
    unary main_v53 main_v64 ((transpose S64x256x1024 [0, 2, 1] · transposes_S64x1024x256_S64x256x1024_0_2_1)) ]

/-- @main's operations, in order. -/
abbrev ops : List (HloOp τ sig (Elt F)) := ops0 ++ (ops1 ++ (ops2 ++ (ops3 ++ (ops4 ++ (ops5 ++ ops6)))))

set_option maxHeartbeats 4000000 in
/-- @main is that straight line. -/
theorem main_eq (c : Dev nD) : main (F := F) c = seq ops := rfl

end Cert.ReferenceIdeal.Hand

end
-- ==== Proof.ReferenceIdeal.Run.lean ====
module

public import proofs.«01_k».proof.Proof.ReferenceIdeal.Stages
public import Idealize.ShloMosaic.Lib.StableHlo.Run

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons o l ih => exact ih _

section Stages
variable (V : Valuation τ sig (Elt F))

theorem s0_flat : after ops0 V (main_v0 : DevRef τ sig) = flatR (V (main_arg0 : DevRef τ sig)) := by
  after_results_simp
  unfold flatR
  rfl
theorem s0_start : after ops0 V (main_v5 : DevRef τ sig) = startR (posR (V (main_arg1 : DevRef τ sig))) := by
  after_results_simp
  unfold startR posR
  rfl
theorem s0_zero : after ops0 V (main_c_2 : DevRef τ sig) = constantI S_ 32 0#32 := by
  after_results_simp
theorem s1_book : after ops1 V (main_v6 : DevRef τ sig) = cutR (V (main_v5 : DevRef τ sig)) (V (main_c_2 : DevRef τ sig)) (V (main_arg2 : DevRef τ sig)) := by
  after_results_simp
  unfold cutR
  refine congrArg (fun k => Host.dynamicSlice S256x256 _ k _) (funext fun k => congrArg BitVec.toInt ?_)
  fin_cases k <;> rfl
theorem s2_dist : after ops2 V (main_v20 : DevRef τ sig) = distR (V (main_v0 : DevRef τ sig)) (V (main_v6 : DevRef τ sig)) := by
  after_results_simp
  unfold distR
  rfl
theorem s3_near : after ops3 V (main_v21 : DevRef τ sig) = nearR (V (main_v20 : DevRef τ sig)) := by
  after_results_simp
  unfold nearR
  rfl
theorem s4_col : after ops4 V (main_v22 : DevRef τ sig) = colR (V (main_v21 : DevRef τ sig)) := by
  after_results
  unfold colR
  rfl
theorem s4_rows : after ops4 V (main_v39 : DevRef τ sig) = rowsR (V (main_v21 : DevRef τ sig)) := by
  after_results
  unfold rowsR fixR
  rfl
theorem s5_picked : after ops5 V (main_v41 : DevRef τ sig) = pickedR (V (main_v39 : DevRef τ sig)) (V (main_v6 : DevRef τ sig)) := by
  after_results_simp
  unfold pickedR
  rfl
theorem s6_loss : after ops6 V (main_v51 : DevRef τ sig) = lossR (V (main_v41 : DevRef τ sig)) (V (main_arg0 : DevRef τ sig)) := by
  after_results_simp
  unfold lossR meanR
  rfl
theorem s6_perp : after ops6 V (main_v63 : DevRef τ sig) = perpR (shareR (V (main_v39 : DevRef τ sig))) := by
  after_results_simp
  unfold perpR shareR
  rfl
theorem s6_out : after ops6 V (main_v64 : DevRef τ sig) = outR (V (main_v41 : DevRef τ sig)) (V (main_arg0 : DevRef τ sig)) := by
  after_results_simp
  unfold outR
  rfl
theorem k0_arg0 : after ops0 V (main_arg0 : DevRef τ sig) = (V (main_arg0 : DevRef τ sig)) := by
  after_results_simp
theorem k0_arg1 : after ops0 V (main_arg1 : DevRef τ sig) = (V (main_arg1 : DevRef τ sig)) := by
  after_results_simp
theorem k0_arg2 : after ops0 V (main_arg2 : DevRef τ sig) = (V (main_arg2 : DevRef τ sig)) := by
  after_results_simp
theorem k1_arg0 : after ops1 V (main_arg0 : DevRef τ sig) = (V (main_arg0 : DevRef τ sig)) := by
  after_results_simp
theorem k1_arg1 : after ops1 V (main_arg1 : DevRef τ sig) = (V (main_arg1 : DevRef τ sig)) := by
  after_results_simp
theorem k1_arg2 : after ops1 V (main_arg2 : DevRef τ sig) = (V (main_arg2 : DevRef τ sig)) := by
  after_results_simp
theorem k1_v0 : after ops1 V (main_v0 : DevRef τ sig) = (V (main_v0 : DevRef τ sig)) := by
  after_results_simp
theorem k2_arg0 : after ops2 V (main_arg0 : DevRef τ sig) = (V (main_arg0 : DevRef τ sig)) := by
  after_results_simp
theorem k2_arg1 : after ops2 V (main_arg1 : DevRef τ sig) = (V (main_arg1 : DevRef τ sig)) := by
  after_results_simp
theorem k2_arg2 : after ops2 V (main_arg2 : DevRef τ sig) = (V (main_arg2 : DevRef τ sig)) := by
  after_results_simp
theorem k2_v6 : after ops2 V (main_v6 : DevRef τ sig) = (V (main_v6 : DevRef τ sig)) := by
  after_results_simp
theorem k3_arg0 : after ops3 V (main_arg0 : DevRef τ sig) = (V (main_arg0 : DevRef τ sig)) := by
  after_results_simp
theorem k3_arg1 : after ops3 V (main_arg1 : DevRef τ sig) = (V (main_arg1 : DevRef τ sig)) := by
  after_results_simp
theorem k3_arg2 : after ops3 V (main_arg2 : DevRef τ sig) = (V (main_arg2 : DevRef τ sig)) := by
  after_results_simp
theorem k3_v6 : after ops3 V (main_v6 : DevRef τ sig) = (V (main_v6 : DevRef τ sig)) := by
  after_results_simp
theorem k4_arg0 : after ops4 V (main_arg0 : DevRef τ sig) = (V (main_arg0 : DevRef τ sig)) := by
  after_results
theorem k4_arg1 : after ops4 V (main_arg1 : DevRef τ sig) = (V (main_arg1 : DevRef τ sig)) := by
  after_results
theorem k4_arg2 : after ops4 V (main_arg2 : DevRef τ sig) = (V (main_arg2 : DevRef τ sig)) := by
  after_results
theorem k4_v6 : after ops4 V (main_v6 : DevRef τ sig) = (V (main_v6 : DevRef τ sig)) := by
  after_results
theorem k5_arg0 : after ops5 V (main_arg0 : DevRef τ sig) = (V (main_arg0 : DevRef τ sig)) := by
  after_results_simp
theorem k5_arg1 : after ops5 V (main_arg1 : DevRef τ sig) = (V (main_arg1 : DevRef τ sig)) := by
  after_results_simp
theorem k5_arg2 : after ops5 V (main_arg2 : DevRef τ sig) = (V (main_arg2 : DevRef τ sig)) := by
  after_results_simp
theorem k5_v22 : after ops5 V (main_v22 : DevRef τ sig) = (V (main_v22 : DevRef τ sig)) := by
  after_results_simp
theorem k5_v39 : after ops5 V (main_v39 : DevRef τ sig) = (V (main_v39 : DevRef τ sig)) := by
  after_results_simp
theorem k6_arg0 : after ops6 V (main_arg0 : DevRef τ sig) = (V (main_arg0 : DevRef τ sig)) := by
  after_results_simp
theorem k6_arg1 : after ops6 V (main_arg1 : DevRef τ sig) = (V (main_arg1 : DevRef τ sig)) := by
  after_results_simp
theorem k6_arg2 : after ops6 V (main_arg2 : DevRef τ sig) = (V (main_arg2 : DevRef τ sig)) := by
  after_results_simp
theorem k6_v22 : after ops6 V (main_v22 : DevRef τ sig) = (V (main_v22 : DevRef τ sig)) := by
  after_results_simp
theorem k6_v39 : after ops6 V (main_v39 : DevRef τ sig) = (V (main_v39 : DevRef τ sig)) := by
  after_results_simp

/-- What the reference's buffers end at, composed over the arguments. -/
abbrev bookV : FVec F S256x256 .f32 := bookR (V (main_arg1 : DevRef τ sig)) (V (main_arg2 : DevRef τ sig))
abbrev nearV : IVec S65536 32 := nearR (distR (flatR (V (main_arg0 : DevRef τ sig))) (bookV V))
theorem a4_arg0 : after ops4 (after ops3 (after ops2 (after ops1 (after ops0 V)))) (main_arg0 : DevRef τ sig) = V (main_arg0 : DevRef τ sig) := by
  rw [k4_arg0, k3_arg0, k2_arg0, k1_arg0, k0_arg0]
theorem a4_v6 : after ops4 (after ops3 (after ops2 (after ops1 (after ops0 V)))) (main_v6 : DevRef τ sig) = bookV V := by
  rw [k4_v6, k3_v6, k2_v6, s1_book, s0_start, s0_zero, k0_arg2, bookV, bookR]
theorem a3_v21 : after ops3 (after ops2 (after ops1 (after ops0 V))) (main_v21 : DevRef τ sig) = nearV V := by
  rw [s3_near, s2_dist, k1_v0, s0_flat, s1_book, s0_start, s0_zero, k0_arg2, nearV, bookV, bookR]

theorem end_out : after ops V (main_v64 : DevRef τ sig) = outR (pickedR (rowsR (nearV V)) (bookV V)) (V (main_arg0 : DevRef τ sig)) := by
  rw [after_append, after_append, after_append, after_append, after_append, after_append, s6_out, s5_picked, k5_arg0, s4_rows, a3_v21, a4_v6, a4_arg0]
theorem end_loss : after ops V (main_v51 : DevRef τ sig) = lossR (pickedR (rowsR (nearV V)) (bookV V)) (V (main_arg0 : DevRef τ sig)) := by
  rw [after_append, after_append, after_append, after_append, after_append, after_append, s6_loss, s5_picked, k5_arg0, s4_rows, a3_v21, a4_v6, a4_arg0]
theorem end_perp : after ops V (main_v63 : DevRef τ sig) = perpR (shareR (rowsR (nearV V))) := by
  rw [after_append, after_append, after_append, after_append, after_append, after_append, s6_perp, k5_v39, s4_rows, a3_v21]
theorem end_rows : after ops V (main_v39 : DevRef τ sig) = rowsR (nearV V) := by
  rw [after_append, after_append, after_append, after_append, after_append, after_append, k6_v39, k5_v39, s4_rows, a3_v21]
theorem end_col : after ops V (main_v22 : DevRef τ sig) = colR (nearV V) := by
  rw [after_append, after_append, after_append, after_append, after_append, after_append, k6_v22, k5_v22, s4_col, a3_v21]
theorem end_arg0 : after ops V (main_arg0 : DevRef τ sig) = V (main_arg0 : DevRef τ sig) := by
  rw [after_append, after_append, after_append, after_append, after_append, after_append, k6_arg0, k5_arg0, k4_arg0, k3_arg0, k2_arg0, k1_arg0, k0_arg0]
theorem end_arg1 : after ops V (main_arg1 : DevRef τ sig) = V (main_arg1 : DevRef τ sig) := by
  rw [after_append, after_append, after_append, after_append, after_append, after_append, k6_arg1, k5_arg1, k4_arg1, k3_arg1, k2_arg1, k1_arg1, k0_arg1]
theorem end_arg2 : after ops V (main_arg2 : DevRef τ sig) = V (main_arg2 : DevRef τ sig) := by
  rw [after_append, after_append, after_append, after_append, after_append, after_append, k6_arg2, k5_arg2, k4_arg2, k3_arg2, k2_arg2, k1_arg2, k0_arg2]

end Stages

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., nullary_bufs_sub .., nullary_bufs_sub .., nullary_bufs_sub .., quaternary_bufs_sub .., quaternary_bufs_sub .., nullary_bufs_sub .., binary_bufs_sub .., nullary_bufs_sub .., binary_bufs_sub .., nullary_bufs_sub .., binary_bufs_sub .., ternary_bufs_sub .., nullary_bufs_sub .., unaryIndexed_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., reshape_bufs_sub .., binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., unary_bufs_sub ..⟩

variable (m : (ℓ : Loc nD τ sig) → Buf (Elt F) ℓ) (ρ : Dev nD → PrngReg)

/-- The codebook and the nearest entries, of the launch contents. -/
abbrev bookM (c : Dev nD) : FVec F S256x256 .f32 := bookR (m ((c.tc : Thread nD τ).loc main_arg1)) (m ((c.tc : Thread nD τ).loc main_arg2))
abbrev nearM (c : Dev nD) : IVec S65536 32 := nearR (distR (flatR (m ((c.tc : Thread nD τ).loc main_arg0))) (bookM m c))

/-- Every fair execution ends with the five results at the stages' composition, and the arguments unchanged. -/
theorem run_main : θ_run defs (onTc (τ := τ) (main (F := F))) ⟨m, fun _ => 0, ρ⟩ fun r => ∀ c : Dev nD,
      r.2.mem ((c.tc : Thread nD τ).loc main_v64) = outR (pickedR (rowsR (nearM m c)) (bookM m c)) (m ((c.tc : Thread nD τ).loc main_arg0))
      ∧ r.2.mem ((c.tc : Thread nD τ).loc main_v51) = lossR (pickedR (rowsR (nearM m c)) (bookM m c)) (m ((c.tc : Thread nD τ).loc main_arg0))
      ∧ r.2.mem ((c.tc : Thread nD τ).loc main_v63) = perpR (shareR (rowsR (nearM m c)))
      ∧ r.2.mem ((c.tc : Thread nD τ).loc main_v39) = rowsR (nearM m c)
      ∧ r.2.mem ((c.tc : Thread nD τ).loc main_v22) = colR (nearM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v64).trans (end_out _), (h c main_v51).trans (end_loss _), (h c main_v63).trans (end_perp _),
      (h c main_v39).trans (end_rows _), (h c main_v22).trans (end_col _),
      (h c main_arg0).trans (end_arg0 _), (h c main_arg1).trans (end_arg1 _), (h c main_arg2).trans (end_arg2 _)⟩)
    (run_seq scopedRefs_eq scopedSems_eq defs main (fun _ => ops) main_eq (fun _ => ops_sub) m ρ)

end Cert.ReferenceIdeal.Hand

end
-- ==== Proof.Value.First.lean ====
module

public import Idealize.ShloMosaic.PureOps.Ideal.Laws
public import Mathlib.Data.Prod.Lex
public import Mathlib.Data.Fintype.Lattice

@[expose] public section

noncomputable section

/-! The first position of a least entry, and the fold of (value, position) pairs that finds it. -/

namespace Cert.Value

open Idealize.ShloMosaic

variable {α : Type} [LinearOrder α] {n : ℕ}

/-- `p` is the first position at which `f` is least. -/
def IsFirst (f : Fin n → α) (p : Fin n) : Prop := (∀ k, f p ≤ f k) ∧ ∀ k, k < p → f p < f k

/-- Two first positions are the same. -/
theorem IsFirst.unique {f : Fin n → α} {p q : Fin n} (hp : IsFirst f p) (hq : IsFirst f q) : p = q := by
  rcases lt_trichotomy p q with h | h | h
  · exact absurd (hq.2 p h) (not_lt.2 (hp.1 q))
  · exact h
  · exact absurd (hp.2 q h) (not_lt.2 (hq.1 p))

/-- There is a first position. -/
theorem exists_first [NeZero n] (f : Fin n → α) : ∃ p, IsFirst f p := by
  obtain ⟨p, -, h⟩ := Finset.exists_min_image (Finset.univ : Finset (Fin n)) (fun k => toLex (f k, k)) ⟨0, Finset.mem_univ _⟩
  have h' : ∀ k, f p < f k ∨ f p = f k ∧ p ≤ k := fun k => (Prod.Lex.toLex_le_toLex).1 (h k (Finset.mem_univ k))
  refine ⟨p, fun k => ?_, fun k hk => ?_⟩
  · rcases h' k with h | h
    · exact h.le
    · exact h.1.le
  · rcases h' k with h | h
    · exact h
    · exact absurd hk (not_lt.2 h.2)

/-- The first position at which `f` is least. -/
def first [NeZero n] (f : Fin n → α) : Fin n := Classical.choose (exists_first f)

theorem first_spec [NeZero n] (f : Fin n → α) : IsFirst f (first f) := Classical.choose_spec (exists_first f)

/-- Whatever is first is `first`. -/
theorem IsFirst.eq [NeZero n] {f : Fin n → α} {p : Fin n} (hp : IsFirst f p) : p = first f := hp.unique (first_spec f)

/-- A pair goes before another: its value is less, or the values agree and its position is no later. -/
def Before (a b : α × BitVec 32) : Prop := a.1 < b.1 ∨ a.1 = b.1 ∧ a.2.toNat ≤ b.2.toNat

theorem Before.refl (a : α × BitVec 32) : Before a a := Or.inr ⟨rfl, Nat.le_refl _⟩

theorem Before.trans {a b c : α × BitVec 32} (h : Before a b) (h' : Before b c) : Before a c := by
  rcases h with h | h <;> rcases h' with h' | h'
  · exact .inl (h.trans h')
  · exact .inl (h'.1 ▸ h)
  · exact .inl (h.1 ▸ h')
  · exact .inr ⟨h.1.trans h'.1, h.2.trans h'.2⟩

/-- A fold that keeps one of two pairs, one going before the other, ends at a pair going before all. -/
theorem foldl_before (red : α × BitVec 32 → α × BitVec 32 → α × BitVec 32) (S : α × BitVec 32 → Prop)
    (hred : ∀ a b, S a → S b → (red a b = a ∧ Before a b) ∨ (red a b = b ∧ Before b a)) :
    ∀ (L : List (α × BitVec 32)) (a : α × BitVec 32), S a → (∀ p ∈ L, S p) →
      (L.foldl red a = a ∨ L.foldl red a ∈ L) ∧ Before (L.foldl red a) a ∧ ∀ p ∈ L, Before (L.foldl red a) p
  | [], a, _, _ => ⟨.inl rfl, .refl a, nofun⟩
  | b :: L, a, ha, hL => by
    have hb : S b := hL b (List.mem_cons_self ..)
    have hL' : ∀ p ∈ L, S p := fun p hp => hL p (List.mem_cons_of_mem _ hp)
    rw [List.foldl_cons]
    rcases hred a b ha hb with ⟨e, h⟩ | ⟨e, h⟩
    · rw [e]
      obtain ⟨h1, h2, h3⟩ := foldl_before red S hred L a ha hL'
      exact ⟨h1.imp_right (List.mem_cons_of_mem _), h2, fun p hp => by
        rcases List.mem_cons.1 hp with rfl | hp
        · exact h2.trans h
        · exact h3 p hp⟩
    · rw [e]
      obtain ⟨h1, h2, h3⟩ := foldl_before red S hred L b hb hL'
      exact ⟨.inr (h1.elim (fun h => by rw [h]; exact List.mem_cons_self) (List.mem_cons_of_mem _)), h2.trans h, fun p hp => by
        rcases List.mem_cons.1 hp with rfl | hp
        · exact h2
        · exact h3 p hp⟩

/-- Such a fold over the pairs of a function's values and positions, from the greatest value at position zero, ends at the function's
first least position. -/
theorem foldl_first [OrderTop α] [NeZero n] (hn : n ≤ 2 ^ 31) (red : α × BitVec 32 → α × BitVec 32 → α × BitVec 32)
    (hred : ∀ a b : α × BitVec 32, a.2.toNat < 2 ^ 31 → b.2.toNat < 2 ^ 31 → (red a b = a ∧ Before a b) ∨ (red a b = b ∧ Before b a))
    (f : Fin n → α) (L : List (α × BitVec 32)) (hL : ∀ p, p ∈ L ↔ ∃ k : Fin n, p = (f k, BitVec.ofNat 32 k.val)) :
    (L.foldl red (⊤, 0#32)).2 = BitVec.ofNat 32 (first f).val := by
  have hk : ∀ k : Fin n, (BitVec.ofNat 32 k.val).toNat = k.val := fun k => by
    rw [BitVec.toNat_ofNat]; exact Nat.mod_eq_of_lt (by have := k.isLt; omega)
  obtain ⟨h1, h2, h3⟩ := foldl_before red (fun a => a.2.toNat < 2 ^ 31) hred L (⊤, 0#32) (by show (0#32).toNat < 2 ^ 31; decide)
    (fun p hp => by obtain ⟨k, rfl⟩ := (hL p).1 hp; show (BitVec.ofNat 32 k.val).toNat < 2 ^ 31; rw [hk]; have := k.isLt; omega)
  generalize L.foldl red (⊤, 0#32) = r at h1 h2 h3
  have h3' : ∀ k, Before r (f k, BitVec.ofNat 32 k.val) := fun k => h3 _ ((hL _).2 ⟨k, rfl⟩)
  rcases h1 with rfl | h1
  · have ht : ∀ k, f k = ⊤ := fun k => by
      rcases h3' k with h | h
      · exact absurd h not_top_lt
      · exact h.1.symm
    have hf : IsFirst f 0 := ⟨fun k => by rw [ht, ht], fun k hk => absurd hk (Fin.not_lt_zero k)⟩
    rw [← hf.eq]; rfl
  · obtain ⟨p, rfl⟩ := (hL r).1 h1
    have hf : IsFirst f p := ⟨fun k => by
      rcases h3' k with h | h
      · exact h.le
      · exact h.1.le, fun k hkp => by
      rcases h3' k with h | h
      · exact h
      · have := h.2
        simp only [hk] at this
        exact absurd hkp (not_lt.2 this)⟩
    rw [← hf.eq]

end Cert.Value

end
-- ==== Proof.Value.Positions.lean ====
module

public import proofs.«01_k».proof.Proof.Value.First
public import proofs.«01_k».proof.Proof.ReferenceIdeal.Stages
public import proofs.«01_k».proof.Proof.KernelIdeal.Pick
public import Idealize.ShloMosaic.Lib.Pointwise

@[expose] public section

set_option maxRecDepth 16384

noncomputable section

/-! The two positions: of the codebook among seven numbers, and of the nearest entry in a row. -/

namespace Cert.Value

open Idealize.ShloMosaic Idealize.ShloMosaic.Pointwise
open Cert.ReferenceIdeal.Hand (posR nearR)

/-- A select of two pairs, by a less-than of their values or an equality and a less-than of their positions, keeps the pair that goes before. -/
theorem select_before {α : Type} [LinearOrder α] (x y : α) (p q : BitVec 32) (hp : p.toNat < 2 ^ 31) (hq : q.toNat < 2 ^ 31) (c u e : BitVec 1)
    (hc : c = BitVec.ofBool (decide (x < y))) (hu : u = BitVec.ofBool (decide (x ≠ x))) (he : e = BitVec.ofBool (decide (x = y))) :
    ((Scalar.select (IntOp.ori c u) x y, Scalar.select (IntOp.ori (IntOp.ori c u) (IntOp.andi e (IntOp.cmpi .slt p q))) p q) = (x, p) ∧ Before (x, p) (y, q)) ∨
      ((Scalar.select (IntOp.ori c u) x y, Scalar.select (IntOp.ori (IntOp.ori c u) (IntOp.andi e (IntOp.cmpi .slt p q))) p q) = (y, q) ∧ Before (y, q) (x, p)) := by
  have hs : IntOp.cmpi .slt p q = BitVec.ofBool (decide (p.toNat < q.toNat)) := by
    simp only [IntOp.cmpi, BitVec.slt_eq_decide, BitVec.toInt_eq_toNat_of_lt (show 2 * p.toNat < 2 ^ 32 by omega),
      BitVec.toInt_eq_toNat_of_lt (show 2 * q.toNat < 2 ^ 32 by omega), Nat.cast_lt]
  subst hc hu he
  rw [hs]
  unfold Before
  rcases lt_trichotomy x y with h | h | h
  · left
    have he : decide (x = y) = false := decide_eq_false h.ne
    simp [h, he, Scalar.select, IntOp.ori, IntOp.andi]
  · subst h
    by_cases h' : p.toNat < q.toNat
    · left; simp [h', h'.le, Scalar.select, IntOp.ori, IntOp.andi]
    · right; simp [h', Scalar.select, IntOp.ori, IntOp.andi, Nat.le_of_not_lt h']
  · right; simp [h, h.not_gt, h.ne', Scalar.select, IntOp.ori, IntOp.andi]

/-- The pairs a fold runs over are those of the indices that drop to its place. -/
theorem mem_fiber {α β : Type} {s t : Shape} {axes : List (Fin s.rank)} (x : s.Idx → α) (y : s.Idx → β) (h : s.ReducesTo axes t) (j : t.Idx) (p : α × β) :
    p ∈ Host.argReduceFiber x y h j ↔ ∃ i, h.drop i = j ∧ p = (x i, y i) := by
  unfold Host.argReduceFiber
  rw [List.mem_map]
  constructor
  · rintro ⟨m, hm, rfl⟩
    exact ⟨s.rowMajor.symm m, of_decide_eq_true (List.mem_filter.1 hm).2, rfl⟩
  · rintro ⟨i, hi, rfl⟩
    refine ⟨s.rowMajor i, List.mem_filter.2 ⟨List.mem_finRange _, ?_⟩, ?_⟩
    · rw [Equiv.symm_apply_apply]; exact decide_eq_true hi
    · rw [Equiv.symm_apply_apply]

/-- A fold of value and position pairs along the second axis finds a row's first least position. -/
theorem reduce2_row {α : Type} [LinearOrder α] [OrderTop α] {A B : ℕ} [NeZero B] (hB : B ≤ 2 ^ 31) {u : Shape}
    (red : α × BitVec 32 → α × BitVec 32 → α × BitVec 32)
    (hred : ∀ a b : α × BitVec 32, a.2.toNat < 2 ^ 31 → b.2.toNat < 2 ^ 31 → (red a b = a ∧ Before a b) ∨ (red a b = b ∧ Before b a))
    (x : (⟨2, ![A, B]⟩ : Shape).Idx → α) (y : (⟨2, ![A, B]⟩ : Shape).Idx → BitVec 32) (hy : ∀ a b, y (ix2 a b) = BitVec.ofNat 32 b.val)
    (ix : u.Idx → α) (iy : u.Idx → BitVec 32) (h : (⟨2, ![A, B]⟩ : Shape).ReducesTo [1] ⟨1, ![A]⟩) (hu : 0 < u.numel)
    (hix : ix (Shape.Idx.first hu) = ⊤) (hiy : iy (Shape.Idx.first hu) = 0#32) (a : Fin A) :
    (Host.reduce2 red x y ix iy h hu (ix1 a)).2 = BitVec.ofNat 32 (first fun b : Fin B => x (ix2 a b)).val := by
  rw [Host.reduce2_eq_foldl_fiber, hix, hiy]
  refine foldl_first hB red hred _ _ fun p => ?_
  rw [mem_fiber]
  constructor
  · rintro ⟨i, hi, rfl⟩
    obtain ⟨k, rfl⟩ := (h.fiber_r2_a1 _ i).1 hi
    exact ⟨k, Prod.ext rfl (hy _ _)⟩
  · rintro ⟨k, rfl⟩
    exact ⟨ix2 a k, (h.fiber_r2_a1 _ _).2 ⟨k, rfl⟩, Prod.ext rfl (hy _ _).symm⟩

/-- A fold of value and position pairs over one axis finds the first least position. -/
theorem reduce2_all {α : Type} [LinearOrder α] [OrderTop α] {B : ℕ} [NeZero B] (hB : B ≤ 2 ^ 31) {u : Shape}
    (red : α × BitVec 32 → α × BitVec 32 → α × BitVec 32)
    (hred : ∀ a b : α × BitVec 32, a.2.toNat < 2 ^ 31 → b.2.toNat < 2 ^ 31 → (red a b = a ∧ Before a b) ∨ (red a b = b ∧ Before b a))
    (x : (⟨1, ![B]⟩ : Shape).Idx → α) (y : (⟨1, ![B]⟩ : Shape).Idx → BitVec 32) (hy : ∀ b, y (ix1 b) = BitVec.ofNat 32 b.val)
    (ix : u.Idx → α) (iy : u.Idx → BitVec 32) {t : Shape} (h : (⟨1, ![B]⟩ : Shape).ReducesTo [0] t) (hu : 0 < u.numel)
    (hix : ix (Shape.Idx.first hu) = ⊤) (hiy : iy (Shape.Idx.first hu) = 0#32) (j : t.Idx) :
    (Host.reduce2 red x y ix iy h hu j).2 = BitVec.ofNat 32 (first fun b : Fin B => x (ix1 b)).val := by
  rw [Host.reduce2_eq_foldl_fiber, hix, hiy]
  refine foldl_first hB red hred _ _ fun p => ?_
  rw [mem_fiber]
  constructor
  · rintro ⟨i, hi, rfl⟩
    obtain ⟨k, rfl⟩ := (h.fiber_r1_a0 _ i).1 hi
    exact ⟨k, Prod.ext rfl (hy _)⟩
  · rintro ⟨k, rfl⟩
    exact ⟨ix1 k, (h.fiber_r1_a0 _ _).2 ⟨k, rfl⟩, Prod.ext rfl (hy _).symm⟩

/-- The pattern of plus infinity is the greatest value, that of minus infinity the least. -/
theorem inf_eq : Ideal.ofBits .f32 0x7F800000#32 = ⊤ ∧ Ideal.ofBits .f32 0xFF800000#32 = ⊥ := by
  simp [Ideal.ofBits, Ideal.ieee]

/-- The same of the reference's row positions. -/
theorem rowPos_eq {A B : ℕ} [NeZero B] (hB : B ≤ 2 ^ 31) {u : Shape}
    (red : EReal × BitVec 32 → EReal × BitVec 32 → EReal × BitVec 32)
    (hred : ∀ a b : EReal × BitVec 32, a.2.toNat < 2 ^ 31 → b.2.toNat < 2 ^ 31 → (red a b = a ∧ Before a b) ∨ (red a b = b ∧ Before b a))
    (x : FVec Ideal ⟨2, ![A, B]⟩ .f32) (y : IVec ⟨2, ![A, B]⟩ 32) (hy : ∀ a b, y (ix2 a b) = BitVec.ofNat 32 b.val)
    (ix : FVec Ideal u .f32) (iy : IVec u 32) (h : (⟨2, ![A, B]⟩ : Shape).ReducesTo [1] ⟨1, ![A]⟩) (hu : 0 < u.numel)
    (hix : ix (Shape.Idx.first hu) = (⊤ : EReal)) (hiy : iy (Shape.Idx.first hu) = 0#32) (a : Fin A) :
    Cert.ReferenceIdeal.Hand.rowPos (F := Ideal) red x y ix iy h hu (ix1 a) = BitVec.ofNat 32 (first fun b : Fin B => (x (ix2 a b) : EReal)).val := by
  unfold Cert.ReferenceIdeal.Hand.rowPos
  rw [Ideal.argReduce_eq_reduce2]
  exact reduce2_row (α := EReal) hB red hred x y hy ix iy h hu hix hiy a

/-- The reference's position of a row's least distance is the first one. -/
theorem nearR_eq (d : FVec Ideal Cert.ReferenceIdeal.S65536x256 .f32) (R : Fin 65536) :
    nearR d (ix1 R) = BitVec.ofNat 32 (first fun l : Fin 256 => (d (ix2 R l) : EReal)).val :=
  rowPos_eq (A := 65536) (B := 256) (by norm_num) (Cert.ReferenceIdeal.reducer_argmin_f32_i32 (F := Ideal))
    (fun a b ha hb => select_before a.1 b.1 a.2 b.2 ha hb _ _ _ rfl rfl rfl) d (iotaInDim Cert.ReferenceIdeal.S65536x256 32 1) (fun _ _ => rfl)
    (constant Cert.ReferenceIdeal.S_ .f32 0x7F800000#32) (constantI Cert.ReferenceIdeal.S_ 32 0#32) _ _ inf_eq.1 rfl R

/-- The reference's position of the greatest of seven numbers is the first one. -/
theorem posR_eq (oh : FVec Ideal Cert.ReferenceIdeal.S7 .f32) (j) :
    posR oh j = BitVec.ofNat 32 (first fun k : Fin 7 => OrderDual.toDual (oh (ix1 k) : EReal)).val := by
  unfold posR
  rw [Ideal.argReduce_eq_reduce2]
  refine reduce2_all (α := ERealᵒᵈ) (by decide) _ (fun a b ha hb => select_before a.1 b.1 a.2 b.2 ha hb _ _ _ rfl rfl rfl) _ _ (fun _ => rfl) _ _ _ _
    ?_ ?_ j
  · exact inf_eq.2
  · rfl

end Cert.Value

end
-- ==== Proof.Value.Finite.lean ====
module

public import proofs.«01_k».proof.Proof.Gen.Pre_finite
public import proofs.«01_k».proof.Proof.Value.Positions
public import Idealize.ShloMosaic.Lib.ReduceAll
public import Idealize.ShloMosaic.Lib.Affine

@[expose] public section

set_option maxRecDepth 16384

noncomputable section

/-! What the precondition says: every vector and every codebook entry is a finite number. -/

namespace Cert.Value

open Idealize.ShloMosaic Idealize.ShloMosaic.Pointwise

/-- A value whose magnitude is below infinity is neither infinity. -/
theorem finite_of_abs (x : Ideal .f32) (h : FloatOps.cmpf .olt (FloatOps.hostAbsf x) (Ideal.ofBits .f32 0x7F800000#32 : Ideal .f32) = 1#1) :
    (x : EReal) ≠ ⊤ ∧ (x : EReal) ≠ ⊥ := by
  rw [inf_eq.1] at h
  constructor <;> rintro rfl
  · exact absurd h (by simp [FloatOps.hostAbsf, FloatOps.absf, FloatOps.cmpf, Ideal.cmp])
  · exact absurd h (by simp [FloatOps.hostAbsf, FloatOps.absf, FloatOps.cmpf, Ideal.cmp])

/-- The precondition, at every element. -/
theorem finite_elems (z : FVec Ideal Cert.Pre_finite.S64x1024x256 .f32) (o : FVec Ideal Cert.Pre_finite.S7 .f32) (W : FVec Ideal Cert.Pre_finite.S1792x256 .f32)
    (h : Cert.Pre_finite.fn z o W = fun _ => 1#1) :
    (∀ i, (z i : EReal) ≠ ⊤ ∧ (z i : EReal) ≠ ⊥) ∧ ∀ i, (W i : EReal) ≠ ⊤ ∧ (W i : EReal) ≠ ⊥ := by
  have : Subsingleton Cert.Pre_finite.S_.Idx := ⟨fun a b => funext fun k => k.elim0⟩
  have e := IntOp.andi_eq_one.1 (congrFun h (Shape.Idx.first Cert.Pre_finite.Gen.h_S_))
  exact ⟨fun i => finite_of_abs _ (Host.reduce_andi_all _ _ _ _ _ e.1 i), fun i => finite_of_abs _ (Host.reduce_andi_all _ _ _ _ _ e.2 i)⟩

end Cert.Value

end
-- ==== Proof.Value.Rows.lean ====
module

public import proofs.«01_k».proof.Proof.Value.First
public import proofs.«01_k».proof.Proof.ReferenceIdeal.Stages
public import proofs.«01_k».proof.Proof.KernelIdeal.Pick
public import Idealize.ShloMosaic.Lib.Pointwise

@[expose] public section

set_option maxRecDepth 16384

noncomputable section

/-! The distances of a row to the entries, in both programs. -/

namespace Cert.Value

open Idealize.ShloMosaic Idealize.ShloMosaic.Pointwise
open Cert.ReferenceIdeal.Hand (distR)
open Cert.KernelIdeal.Gen

/-- The squared distance of a row to entry `l`, as both programs compute it. -/
def dst (x : Fin 256 → EReal) (w : Fin 256 → Fin 256 → EReal) (l : Fin 256) : EReal :=
  (∑ k, x k * x k) + (∑ k, w l k * w l k) - Ideal.ofBits .f32 0x40000000#32 * ∑ k, x k * w l k

/-- The kernel's distances. -/
theorem dist_kernel (w : Vec Ideal Cert.KernelIdeal.S256x256 .f32) (z : Vec Ideal Cert.KernelIdeal.S1x1024x256 .f32) (r : Fin 1024) (l : Fin 256) :
    k0_pay9 w z (ix2 r l) = dst (fun k => z (ix3 (0 : Fin 1) r k)) (fun l k => w (ix2 l k)) l := by
  unfold dst
  pointwise [k0_pay9, k0_pay8]

/-- The reference's distances. -/
theorem dist_ref (x : FVec Ideal Cert.ReferenceIdeal.S65536x256 .f32) (w : FVec Ideal Cert.ReferenceIdeal.S256x256 .f32) (R : Fin 65536) (l : Fin 256) :
    distR x w (ix2 R l) = dst (fun k => x (ix2 R k)) (fun l k => w (ix2 l k)) l := by
  unfold dst
  pointwise [distR]

/-- The kernel's least distance of a row. -/
theorem least_kernel (w : Vec Ideal Cert.KernelIdeal.S256x256 .f32) (z : Vec Ideal Cert.KernelIdeal.S1x1024x256 .f32) (r : Fin 1024) :
    k0_pay10 w z (ix2 r (0 : Fin 1)) = Finset.univ.fold min (Ideal.ofBits .f32 0x7F800000#32) fun l : Fin 256 => (k0_pay9 w z (ix2 r l) : EReal) := by
  pointwise [k0_pay10]

end Cert.Value

end
-- ==== Proof.Value.Nearest.lean ====
module

public import proofs.«01_k».proof.Proof.Value.Rows
public import proofs.«01_k».proof.Proof.Value.Positions
public import Idealize.ShloMosaic.Lib.SortNet.Extract

@[expose] public section

set_option maxRecDepth 16384

noncomputable section

/-! The nearest entry of a row, and its one-hot row, in both programs. -/

namespace Cert.Value

open Idealize.ShloMosaic Idealize.ShloMosaic.Pointwise
open Cert.ReferenceIdeal.Hand (distR rowsR colR fixR nearR)
open Cert.KernelIdeal.Gen

/-- The least value of a row is the one at its first least position. -/
theorem fold_min_first (f : Fin 256 → EReal) : Finset.univ.fold min (⊤ : EReal) f = f (first f) :=
  le_antisymm ((Finset.fold_min_le _).2 (.inr ⟨first f, Finset.mem_univ _, le_rfl⟩)) ((Finset.le_fold_min _).2 ⟨le_top, fun k _ => (first_spec f).1 k⟩)

/-- The least lane number among those whose value is the row's least is the first least position. -/
theorem fold_minsi_first (f : Fin 256 → EReal) (g : Fin 256 → BitVec 32)
    (hg : ∀ l, g l = if f l = f (first f) then BitVec.ofNat 32 l.val else 256#32) :
    Finset.univ.fold IntOp.minsi 2147483647#32 g = BitVec.ofNat 32 (first f).val := by
  have hn : ∀ l : Fin 256, (BitVec.ofNat 32 l.val).toInt = l.val := by decide +kernel
  apply BitVec.eq_of_toInt_eq
  rw [← Finset.fold_hom (op' := (min : ℤ → ℤ → ℤ)) (m := BitVec.toInt) (fun a b => SortNet.toInt_minsi a b)]
  refine le_antisymm ((Finset.fold_min_le _).2 (.inr ⟨first f, Finset.mem_univ _, by rw [hg, if_pos rfl]⟩))
    ((Finset.le_fold_min _).2 ⟨?_, fun l _ => ?_⟩)
  · rw [hn]; have := (first f).isLt; show ((first f).val : ℤ) ≤ 2147483647; omega
  · rw [hg, hn]
    have := (first f).isLt
    split
    · next h =>
      rw [hn]
      have : ¬ l < first f := fun hl => absurd ((first_spec f).2 l hl) (by rw [h]; exact lt_irrefl _)
      have : (first f).val ≤ l.val := not_lt.1 this
      omega
    · show ((first f).val : ℤ) ≤ 256; omega

section
variable (w : Vec Ideal Cert.KernelIdeal.S256x256 .f32) (z : Vec Ideal Cert.KernelIdeal.S1x1024x256 .f32) (r : Fin 1024)

/-- The first nearest entry of row `r`. -/
def nearK : Fin 256 := first fun l : Fin 256 => (k0_pay9 w z (ix2 r l) : EReal)

theorem least_eq : k0_pay10 w z (ix2 r (0 : Fin 1)) = (k0_pay9 w z (ix2 r (nearK w z r)) : EReal) := by
  rw [least_kernel, inf_eq.1]
  exact fold_min_first _

/-- The kernel's position is the first nearest entry. -/
theorem index_kernel : k0_pay11 w z (ix2 r (0 : Fin 1)) = BitVec.ofNat 32 (nearK w z r).val := by
  pointwise [k0_pay11]
  refine fold_minsi_first _ _ fun l => ?_
  rw [least_eq]
  rfl

/-- The kernel's one-hot row is one at the first nearest entry and zero elsewhere. -/
theorem onehot_kernel (l : Fin 256) : (k0_pay12 w z (ix2 r l) : EReal) = if l = nearK w z r then 1 else 0 := by
  pointwise [k0_pay12]
  rw [index_kernel]
  have hs : ∀ b : BitVec 32, (FloatOps.sitofp .f32 b : Ideal .f32) = ((b.toInt : ℝ) : EReal) := fun _ => rfl
  rw [hs]
  have hl : ∀ a b : Fin 256, (BitVec.setWidth 32 (IntOp.cmpi .eq (BitVec.ofNat 32 a.val) (BitVec.ofNat 32 b.val))).toInt = if a = b then 1 else 0 :=
    fun a b => by
    have : BitVec.ofNat 32 a.val = BitVec.ofNat 32 b.val ↔ a = b := ⟨fun e => Fin.ext (by
      have := congrArg BitVec.toNat e
      rw [BitVec.toNat_ofNat, BitVec.toNat_ofNat, Nat.mod_eq_of_lt (by omega), Nat.mod_eq_of_lt (by omega)] at this
      exact this), fun e => by rw [e]⟩
    unfold IntOp.cmpi
    by_cases e : a = b
    · rw [if_pos e, e]; simp
    · have e' : (BitVec.ofNat 32 a.val == BitVec.ofNat 32 b.val) = false := beq_eq_false_iff_ne.2 (mt this.1 e)
      simp only [e', if_neg e]
      rfl
  rw [hl]
  split <;> simp
end

end Cert.Value

end
-- ==== Proof.Value.Scatter.lean ====
module

public import proofs.«01_k».proof.Proof.ReferenceIdeal.Stages
public import Idealize.ShloMosaic.Lib.Pointwise
public import Idealize.ShloMosaic.Lib.Routing.OpsPair

@[expose] public section

set_option maxRecDepth 16384

noncomputable section

/-! The reference's one-hot rows: a scatter of ones, one for each row, at the row's position. -/

namespace Cert.Value

open Idealize.ShloMosaic Idealize.ShloMosaic.Pointwise
open Cert.ReferenceIdeal.Hand (rowsR fixR)

/-- A fold that sets one value wherever a test holds ends at that value exactly when the test holds somewhere. -/
theorem foldl_set {α β : Type} (P : β → Prop) [DecidablePred P] (v : α) :
    ∀ (L : List β) (a : α), L.foldl (fun a n => if P n then v else a) a = if ∃ n ∈ L, P n then v else a
  | [], a => by simp
  | b :: L, a => by
    rw [List.foldl_cons, foldl_set P v L]
    by_cases hb : P b <;> by_cases hL : ∃ n ∈ L, P n <;> simp_all

/-- Update `i` of a scatter of scalars into a matrix, by two words for each update, lands at `(r, c)` exactly when the words, read signed, are
`r` and `c`. -/
theorem scatter_lands_pair {R C A : ℕ} (d : ScatterDims ⟨2, ![R, C]⟩ ⟨2, ![A, 2]⟩ ⟨1, ![A]⟩) (hiw : d.insertedWindowDims = [0, 1])
    (hsd : d.scatterDimsToOperandDims = [0, 1]) (hivd : d.indexVectorDim = 1) (idx : IVec ⟨2, ![A, 2]⟩ 32) (i : Fin A) (r : Fin R) (c : Fin C) :
    d.resultIdx? (ix1 i) idx = some (ix2 r c) ↔ (idx (ix2 i (0 : Fin 2))).toInt = r.val ∧ (idx (ix2 i (1 : Fin 2))).toInt = c.val := by
  have hm : ∀ q : Fin 2, q ∈ d.scatterDimsToOperandDims := fun q => by rw [hsd]; fin_cases q <;> simp
  have hwin : ∀ q : Fin 2, d.window (ix1 i) q = 0 := fun q => by
    unfold ScatterDims.window
    refine dif_neg fun h => ?_
    have := of_decide_eq_true (List.mem_filter.1 h).2
    rw [hiw] at this
    fin_cases q <;> simp at this
  have hsi : ∀ q : Fin 2, d.siIdx (ix1 i) ⟨d.scatterDimsToOperandDims.idxOf q, List.idxOf_lt_length_iff.2 (hm q)⟩ = ix2 i q := fun q => by
    funext b
    apply Fin.ext
    unfold ScatterDims.siIdx
    match b with
    | ⟨0, _⟩ =>
      rw [dif_neg (by rw [hivd]; exact Nat.zero_ne_one)]
      unfold ScatterDims.siCoord
      rw [Fin.val_cast]
      have e : ∀ X : Fin 1, (ix1 i X).val = i.val := fun X => by rw [Subsingleton.elim X 0]; rfl
      exact e _
    | ⟨1, _⟩ =>
      rw [dif_pos (by rw [hivd])]
      show List.idxOf q d.scatterDimsToOperandDims = q.val
      rw [hsd]
      fin_cases q <;> rfl
  have hstart : ∀ q : Fin 2, d.start (ix1 i) idx q = (idx (ix2 i q)).toInt := fun q => by
    unfold ScatterDims.start
    rw [dif_pos (hm q), hsi]
  refine (Routing.resultIdx?_ix2 d (ix1 i) idx r c).trans ?_
  rw [hstart, hstart, hwin, hwin]
  simp

/-- A scatter of one value, for each row into that row, sets it at the row's column and leaves the rest. -/
theorem scatter_rows {α : Type} {R C : ℕ} (d : ScatterDims ⟨2, ![R, C]⟩ ⟨2, ![R, 2]⟩ ⟨1, ![R]⟩) (hiw : d.insertedWindowDims = [0, 1])
    (hsd : d.scatterDimsToOperandDims = [0, 1]) (hivd : d.indexVectorDim = 1) (x0 : (⟨2, ![R, C]⟩ : Shape).Idx → α) (idx : IVec ⟨2, ![R, 2]⟩ 32)
    (upd : (⟨1, ![R]⟩ : Shape).Idx → α) (v : α) (hv : ∀ j, upd j = v) (p : Fin R → Fin C)
    (h0 : ∀ i, (idx (ix2 i (0 : Fin 2))).toInt = i.val) (h1 : ∀ i, (idx (ix2 i (1 : Fin 2))).toInt = (p i).val) (r : Fin R) (c : Fin C) :
    Host.scatter d (fun _ b => b) x0 idx upd (ix2 r c) = if c = p r then v else x0 (ix2 r c) := by
  classical
  rw [Routing.scatter_at]
  simp only [hv]
  rw [foldl_set]
  refine ite_cond_congr (propext ⟨?_, fun e => ?_⟩)
  · rintro ⟨n, -, h⟩
    obtain ⟨i, hi⟩ : ∃ i, (⟨1, ![R]⟩ : Shape).rowMajor.symm n = ix1 i := ⟨_, eq_ix1 _⟩
    rw [hi, scatter_lands_pair d hiw hsd hivd, h0, h1] at h
    obtain rfl : i = r := Fin.ext (by exact_mod_cast h.1)
    exact Fin.ext (by exact_mod_cast h.2.symm)
  · refine ⟨(⟨1, ![R]⟩ : Shape).rowMajor (ix1 r), List.mem_finRange _, ?_⟩
    rw [Equiv.symm_apply_apply, scatter_lands_pair d hiw hsd hivd, h0, h1, e]
    exact ⟨rfl, rfl⟩

/-- A position that is not negative is kept as it is. -/
theorem fixR_eq (k : BitVec 32) (n : IVec Cert.ReferenceIdeal.S65536 32) (i : Fin 65536) (p : ℕ) (hp : p < 2 ^ 31) (hn : n (ix1 i) = BitVec.ofNat 32 p) :
    (fixR k n (ix1 i)).toInt = p := by
  have h : (BitVec.ofNat 32 p).toNat = p := by rw [BitVec.toNat_ofNat]; exact Nat.mod_eq_of_lt (by omega)
  have e : fixR k n (ix1 i) = Scalar.select (IntOp.cmpi .slt (n (ix1 i)) 0#32) (IntOp.addi (n (ix1 i)) k) (n (ix1 i)) := by
    pointwise [fixR]
  rw [e, hn, Routing.wrap_of_lt _ _ (by rw [h]; exact hp), BitVec.toInt_eq_toNat_of_lt (by omega), h]

/-- The reference's one-hot row is one at the row's position and zero elsewhere. -/
theorem onehot_ref (n : IVec Cert.ReferenceIdeal.S65536 32) (p : Fin 65536 → Fin 256) (hn : ∀ R, n (ix1 R) = BitVec.ofNat 32 (p R).val)
    (R : Fin 65536) (l : Fin 256) : (rowsR (F := Ideal) n (ix2 R l) : EReal) = if l = p R then 1 else 0 := by
  unfold rowsR
  refine (scatter_rows (R := 65536) (C := 256) _ rfl rfl rfl _ _ _ (1 : EReal) (fun j => ?_) p (fun i => ?_) (fun i => ?_) R l).trans
    (if_congr Iff.rfl rfl ?_)
  · idx_vars j
    pointwise
  · refine Eq.trans (congrArg BitVec.toInt ?_) (fixR_eq 65536#32 (iotaInDim Cert.ReferenceIdeal.S65536 32 (0 : Fin 1)) i i.val (by omega) (by pointwise))
    pointwise
  · refine Eq.trans (congrArg BitVec.toInt ?_) (fixR_eq 256#32 n i (p i).val (by omega) (hn i))
    pointwise
  · pointwise

end Cert.Value

end
-- ==== Proof.Value.Section.lean ====
module

public import proofs.«01_k».proof.Proof.Value.Positions

@[expose] public section

set_option maxRecDepth 16384

noncomputable section

/-! The codebook selected: both programs cut the same square of entries. -/

namespace Cert.Value

open Idealize.ShloMosaic Idealize.ShloMosaic.Pointwise
open Cert.KernelIdeal.Hand (word pick pickStep pos sect trips_eq iv_toNat)
open Cert.ReferenceIdeal.Hand (posR startR cutR bookR)
open Cert.KernelIdeal.Gen

/-- The first position of the greatest of seven numbers. -/
def place (oh : (⟨1, ![7]⟩ : Shape).Idx → EReal) : Fin 7 := first fun k : Fin 7 => OrderDual.toDual (oh (ix1 k))

/-- Trip `k` reads number `k + 1`. -/
theorem word_eq (x : Vec Ideal Cert.KernelIdeal.S7 .f32) (k : Fin Cert.KernelIdeal.k0_t1_loop.trips) (h : k.val + 1 < 7) :
    word x k = x (ix1 ⟨k.val + 1, h⟩) := by
  unfold word View.ld
  refine congrArg x (funext fun a => Fin.ext ?_)
  match a with
  | ⟨0, _⟩ => exact iv_toNat ⟨k.val, by omega⟩

/-- Before trip `k` the loop holds the first greatest of the numbers up to `k`, and its position. -/
theorem pick_first (x : Vec Ideal Cert.KernelIdeal.S7 .f32) : ∀ k, k ≤ 6 → ∃ p : Fin 7, p.val ≤ k ∧ pick x k = (x (ix1 p), BitVec.ofNat 32 p.val) ∧
    (∀ i : Fin 7, i.val ≤ k → (x (ix1 i) : EReal) ≤ x (ix1 p)) ∧ ∀ i : Fin 7, i < p → (x (ix1 i) : EReal) < x (ix1 p)
  | 0, _ => by
    refine ⟨0, le_rfl, Prod.ext ?_ rfl, fun i hi => ?_, fun i hi => absurd hi (Fin.not_lt_zero i)⟩
    · refine congrArg x (funext fun a => Fin.ext ?_)
      match a with
      | ⟨0, _⟩ => rfl
    · obtain rfl : i = 0 := Fin.ext (Nat.le_zero.1 hi)
      exact le_rfl
  | k + 1, hk => by
    obtain ⟨p, hp, e, h1, h2⟩ := pick_first x k (by omega)
    have hkt : k < Cert.KernelIdeal.k0_t1_loop.trips := by rw [trips_eq]; omega
    have hw := word_eq x ⟨k, hkt⟩ (by show k + 1 < 7; omega)
    have hs : pick x (k + 1) = (k0_pay7 (pick x k).1 (word x ⟨k, hkt⟩),
        Scalar.select (Scalar.cmpf .ogt (word x ⟨k, hkt⟩) (pick x k).1) (Scf.iv 1#32 1#32 k) (pick x k).2) := by
      show pickStep x k (pick x k) = _
      unfold pickStep
      rw [dif_pos hkt]
    have hi : Scf.iv 1#32 1#32 k = BitVec.ofNat 32 (k + 1) :=
      BitVec.eq_of_toNat_eq (by rw [iv_toNat ⟨k, by omega⟩, BitVec.toNat_ofNat]; exact (Nat.mod_eq_of_lt (by omega)).symm)
    rw [hs, hw, e, hi]
    unfold k0_pay7
    simp only [Ideal.scalar_cmpf_def, Ideal.cmp, Scalar.select]
    by_cases hlt : (x (ix1 p) : EReal) < x (ix1 ⟨k + 1, by omega⟩)
    · refine ⟨⟨k + 1, by omega⟩, le_rfl, by simp [hlt], fun i hi => ?_, fun i hi => ?_⟩
      · rcases Nat.lt_or_ge k i.val with hki | hki
        · have e' : i = ⟨k + 1, by omega⟩ := Fin.ext (by show i.val = k + 1; omega)
          rw [e']
        · exact (h1 i hki).trans hlt.le
      · exact (h1 i (by have : i.val < k + 1 := hi; omega)).trans_lt hlt
    · refine ⟨p, by omega, by simp [hlt], fun i hi => ?_, h2⟩
      rcases Nat.lt_or_ge k i.val with hki | hki
      · have e' : i = ⟨k + 1, by omega⟩ := Fin.ext (by show i.val = k + 1; omega)
        rw [e']
        exact not_lt.1 hlt
      · exact h1 i hki

/-- The kernel's position is the first one of the greatest number. -/
theorem pos_eq (x : Vec Ideal Cert.KernelIdeal.S7 .f32) : pos x = BitVec.ofNat 32 (place x).val := by
  obtain ⟨p, -, e, h1, h2⟩ := pick_first x 6 le_rfl
  have hp : IsFirst (fun k : Fin 7 => OrderDual.toDual (x (ix1 k) : EReal)) p := ⟨fun k => h1 k (by omega), fun k hk => h2 k hk⟩
  unfold pos place
  rw [trips_eq, e, ← hp.eq]

/-- The codebook selected, by entry and component. -/
def book (oh : (⟨1, ![7]⟩ : Shape).Idx → EReal) (W : (⟨2, ![1792, 256]⟩ : Shape).Idx → EReal) (l k : Fin 256) : EReal :=
  W (ix2 ⟨(place oh).val * 256 + l.val, by have := (place oh).isLt; have := l.isLt; omega⟩ k)

theorem place_mul (p : Fin 7) : (BitVec.ofNat 32 p.val * 256#32 : BitVec 32) = BitVec.ofNat 32 (p.val * 256) := by
  revert p; decide +kernel

/-- The kernel's square is the codebook selected. -/
theorem sect_eq (oh : Vec Ideal Cert.KernelIdeal.S7 .f32) (W : Vec Ideal Cert.KernelIdeal.S1792x256 .f32) (l k : Fin 256) :
    sect oh W (ix2 l k) = book oh W l k := by
  unfold sect View.ld book
  refine congrArg W (funext fun a => Fin.ext ?_)
  have h7 := (place oh).isLt
  match a with
  | ⟨0, _⟩ =>
    show (pos oh * 256#32 : BitVec 32).toNat + 1 * l.val = (place oh).val * 256 + l.val
    rw [pos_eq, place_mul, BitVec.toNat_ofNat, Nat.mod_eq_of_lt (by omega), Nat.one_mul]
  | ⟨1, _⟩ =>
    show 0 + 1 * k.val = k.val
    omega

theorem start_place (p : Fin 7) : (Scalar.select (IntOp.cmpi .slt (BitVec.ofNat 32 p.val * 256#32) 0#32) (BitVec.ofNat 32 p.val * 256#32 + 1792#32)
    (BitVec.ofNat 32 p.val * 256#32) : BitVec 32).toInt = (p.val * 256 : ℕ) := by
  revert p; decide +kernel

/-- The reference's square is the codebook selected. -/
theorem bookR_eq (oh : FVec Ideal Cert.ReferenceIdeal.S7 .f32) (W : FVec Ideal Cert.ReferenceIdeal.S1792x256 .f32) (l k : Fin 256) :
    bookR oh W (ix2 l k) = book oh W l k := by
  have hs : ∀ j, (startR (posR oh) j).toInt = ((place oh).val * 256 : ℕ) := fun j => by
    refine Eq.trans ?_ (start_place (place oh))
    show (Scalar.select (IntOp.cmpi .slt (posR oh j * 256#32) 0#32) (posR oh j * 256#32 + 1792#32) (posR oh j * 256#32) : BitVec 32).toInt = _
    rw [posR_eq]
    rfl
  have h7 := (place oh).isLt
  unfold bookR cutR book
  rw [Host.dynamicSlice_apply]
  refine congrArg W (funext fun a => Fin.ext ?_)
  match a with
  | ⟨0, _⟩ =>
    show Host.clampedStart _ _ _ _ 0 + l.val = (place oh).val * 256 + l.val
    exact congrArg (· + l.val) (Host.clampedStart_of_le _ _ _ _ (hs _) (by show (place oh).val * 256 + 256 ≤ 1792; omega))
  | ⟨1, _⟩ =>
    show Host.clampedStart _ _ _ _ 1 + k.val = k.val
    exact (congrArg (· + k.val) (Host.clampedStart_of_le _ _ _ 0 rfl (by show 0 + 256 ≤ 256; omega))).trans (Nat.zero_add _)

end Cert.Value

end
-- ==== Proof.Value.Entries.lean ====
module

public import proofs.«01_k».proof.Proof.Value.Nearest
public import proofs.«01_k».proof.Proof.Value.Scatter
public import proofs.«01_k».proof.Proof.Value.Section
public import proofs.«01_k».proof.Proof.KernelIdeal.Run

@[expose] public section

set_option maxRecDepth 16384

noncomputable section

/-! The nearest entry of each vector, and the results that name it: its position, its one-hot row, the entry itself. -/

namespace Cert.Value

open Idealize.ShloMosaic Idealize.ShloMosaic.Pointwise
open Cert.ReferenceIdeal.Hand (nearR distR flatR bookR rowsR colR pickedR outR)
open Cert.KernelIdeal.Hand (sect encBlk idxBlk zqtBlk)
open Cert.KernelIdeal.Gen

variable (oh : FVec Ideal Cert.ReferenceIdeal.S7 .f32) (W : FVec Ideal Cert.ReferenceIdeal.S1792x256 .f32)
  (z : FVec Ideal Cert.ReferenceIdeal.S64x1024x256 .f32)

/-- The position of the entry nearest to vector `r` of image `t`. -/
def cell (t : Fin 64) (r : Fin 1024) : Fin 256 := first fun l => dst (fun k => z (ix3 t r k)) (book oh W) l

/-- The image of flat row `R`. -/
def rowT (R : Fin 65536) : Fin 64 := ⟨R.val / 1024, by omega⟩
/-- The vector of flat row `R` in its image. -/
def rowV (R : Fin 65536) : Fin 1024 := ⟨R.val % 1024, by omega⟩

/-- The kernel's nearest position, of a block that is image `t`. -/
theorem cell_kernel (t : Fin 64) (zb : FVec Ideal Cert.KernelIdeal.S1x1024x256 .f32)
    (hz : ∀ r k, zb (ix3 (0 : Fin 1) r k) = z (ix3 t r k)) (r : Fin 1024) : nearK (sect oh W) zb r = cell oh W z t r := by
  unfold nearK cell
  congr 1
  funext l
  refine (dist_kernel _ _ r l).trans ?_
  congr 1
  · funext k; exact hz r k
  · funext l k; exact sect_eq oh W l k

/-- The reference's vectors, flattened. -/
theorem flat_eq (R : Fin 65536) (k : Fin 256) : flatR (F := Ideal) z (ix2 R k) = z (ix3 (rowT R) (rowV R) k) := by
  pointwise [flatR]
  rfl

/-- The reference's nearest position. -/
theorem cell_ref (R : Fin 65536) :
    nearR (distR (F := Ideal) (flatR z) (bookR oh W)) (ix1 R) = BitVec.ofNat 32 (cell oh W z (rowT R) (rowV R)).val := by
  refine (nearR_eq _ R).trans ?_
  unfold cell
  refine congrArg (fun f => BitVec.ofNat 32 (first f).val) ?_
  funext l
  refine (dist_ref _ _ R l).trans ?_
  congr 1
  · funext k; exact flat_eq z R k
  · funext l k; exact bookR_eq oh W l k

/-- The kernel's one-hot row. -/
theorem enc_kernel (t : Fin 64) (zb : FVec Ideal Cert.KernelIdeal.S1x1024x256 .f32)
    (hz : ∀ r k, zb (ix3 (0 : Fin 1) r k) = z (ix3 t r k)) (r : Fin 1024) (l : Fin 256) :
    (k0_pay12 (F := Ideal) (sect oh W) zb (ix2 r l) : EReal) = if l = cell oh W z t r then 1 else 0 := by
  rw [onehot_kernel, cell_kernel oh W z t zb hz]

/-- The reference's one-hot row. -/
theorem enc_ref (R : Fin 65536) (l : Fin 256) :
    (rowsR (F := Ideal) (nearR (distR (flatR z) (bookR oh W))) (ix2 R l) : EReal) = if l = cell oh W z (rowT R) (rowV R) then 1 else 0 :=
  onehot_ref _ (fun R => cell oh W z (rowT R) (rowV R)) (cell_ref oh W z) R l

/-- A sum against a one-hot row is its one entry. -/
theorem sum_onehot (p : Fin 256) (f e : Fin 256 → EReal) (he : ∀ l, e l = if l = p then 1 else 0) : ∑ l, e l * f l = f p := by
  rw [Finset.sum_eq_single p (fun l _ hl => by rw [he, if_neg hl, zero_mul]) (fun h => absurd (Finset.mem_univ _) h), he, if_pos rfl, one_mul]

/-- The kernel's picked entries. -/
theorem zqt_kernel (t : Fin 64) (zb : FVec Ideal Cert.KernelIdeal.S1x1024x256 .f32)
    (hz : ∀ r k, zb (ix3 (0 : Fin 1) r k) = z (ix3 t r k)) (k : Fin 256) (r : Fin 1024) :
    (zqtBlk (F := Ideal) oh zb W (ix3 (0 : Fin 1) k r) : EReal) = book oh W (cell oh W z t r) k := by
  have e : (zqtBlk (F := Ideal) oh zb W (ix3 (0 : Fin 1) k r) : EReal) = ∑ l : Fin 256, k0_pay12 (F := Ideal) (sect oh W) zb (ix2 r l) * sect (F := Ideal) oh W (ix2 l k) := by
    pointwise [zqtBlk, k0_pay1, k0_pay8]
    exact Finset.sum_congr rfl fun _ _ => mul_comm _ _
  rw [e, sum_onehot _ _ _ (enc_kernel oh W z t zb hz r)]
  exact sect_eq oh W _ k

/-- The flat row of a vector names that vector. -/
theorem row_of (t : Fin 64) (r : Fin 1024) : rowT ⟨t.val * 1024 + r.val, by omega⟩ = t ∧ rowV ⟨t.val * 1024 + r.val, by omega⟩ = r :=
  ⟨Fin.ext (by unfold rowT; show (t.val * 1024 + r.val) / 1024 = t.val; omega), Fin.ext (by unfold rowV; show (t.val * 1024 + r.val) % 1024 = r.val; omega)⟩

/-- The entries one-hot rows pick. -/
theorem picked_at (e : FVec Ideal Cert.ReferenceIdeal.S65536x256 .f32) (w : FVec Ideal Cert.ReferenceIdeal.S256x256 .f32) (p : Fin 65536 → Fin 256)
    (he : ∀ R l, (e (ix2 R l) : EReal) = if l = p R then 1 else 0) (t : Fin 64) (r : Fin 1024) (k : Fin 256) :
    (pickedR e w (ix3 t r k) : EReal) = w (ix2 (p ⟨t.val * 1024 + r.val, by omega⟩) k) := by
  have h : (pickedR e w (ix3 t r k) : EReal) = ∑ l : Fin 256, e (ix2 (⟨t.val * 1024 + r.val, by omega⟩ : Fin 65536) l) * w (ix2 l k) := by
    pointwise [pickedR]
  rw [h, sum_onehot _ _ _ fun l => he _ l]

/-- The reference's picked entries. -/
theorem picked_ref (t : Fin 64) (r : Fin 1024) (k : Fin 256) :
    (pickedR (F := Ideal) (rowsR (nearR (distR (flatR z) (bookR oh W)))) (bookR oh W) (ix3 t r k) : EReal) = book oh W (cell oh W z t r) k := by
  refine (picked_at _ _ (fun R => cell oh W z (rowT R) (rowV R)) (enc_ref oh W z) t r k).trans ?_
  simp only [row_of]
  exact bookR_eq oh W _ k

/-- A column holds its row. -/
theorem col_at (n : IVec Cert.ReferenceIdeal.S65536 32) (R : Fin 65536) : colR n (ix2 R (0 : Fin 1)) = n (ix1 R) := by
  pointwise [colR]

/-- The reference's index column. -/
theorem col_ref (R : Fin 65536) :
    colR (nearR (distR (F := Ideal) (flatR z) (bookR oh W))) (ix2 R (0 : Fin 1)) = BitVec.ofNat 32 (cell oh W z (rowT R) (rowV R)).val :=
  (col_at _ R).trans (cell_ref oh W z R)

/-- The kernel's index column. -/
theorem col_kernel (t : Fin 64) (zb : FVec Ideal Cert.KernelIdeal.S1x1024x256 .f32)
    (hz : ∀ r k, zb (ix3 (0 : Fin 1) r k) = z (ix3 t r k)) (r : Fin 1024) :
    idxBlk (F := Ideal) oh zb W (ix2 r (0 : Fin 1)) = BitVec.ofNat 32 (cell oh W z t r).val := by
  unfold idxBlk
  rw [index_kernel, cell_kernel oh W z t zb hz]

/-- The reference's first result: the vectors moved onto their entries, transposed. -/
theorem out_ref (q z : FVec Ideal Cert.ReferenceIdeal.S64x1024x256 .f32) (t : Fin 64) (k : Fin 256) (r : Fin 1024) :
    (outR q z (ix3 t k r) : EReal) = z (ix3 t r k) + (q (ix3 t r k) - z (ix3 t r k)) := by
  pointwise [outR]

end Cert.Value

end
-- ==== Proof.Value.Counts.lean ====
module

public import proofs.«01_k».proof.Proof.KernelIdeal.Launch
public import proofs.«01_k».proof.Proof.ReferenceIdeal.Stages
public import Idealize.ShloMosaic.Lib.Pointwise
public import Idealize.ShloMosaic.Lib.IdealHost
public import Idealize.ShloMosaic.Lib.Pipeline.ValueKit

@[expose] public section

set_option maxRecDepth 16384

noncomputable section

/-! The counts and the sums the two programs accumulate. -/

namespace Cert.Value

open Idealize.ShloMosaic Idealize.ShloMosaic.Pointwise
open Cert.ReferenceIdeal.Hand (shareR perpR meanR lossR)
open Cert.KernelIdeal.Hand
open Cert.KernelIdeal.Gen

/-- One point's addition to the counts. -/
theorem cnt_step (e : FVec Ideal Cert.KernelIdeal.S1024x256 .f32) (a : FVec Ideal Cert.KernelIdeal.S1x256 .f32) (l : Fin 256) :
    (k0_pay4 e a (ix2 (0 : Fin 1) l) : EReal) = a (ix2 (0 : Fin 1) l) + ∑ r : Fin 1024, e (ix2 r l) := by
  pointwise [k0_pay4]

/-- The counts begin at zero. -/
theorem cnt_zero (l : Fin 256) : (k0_pay2 (F := Ideal) (ix2 (0 : Fin 1) l) : EReal) = 0 := by
  pointwise [k0_pay2]

/-- One point's addition to the sum of the least distances. -/
theorem loss_step (d : FVec Ideal Cert.KernelIdeal.S1024x1 .f32) (a : EReal) :
    (k0_pay3 (F := Ideal) d a : EReal) = a + ∑ r : Fin 1024, d (ix2 r (0 : Fin 1)) := by
  pointwise [k0_pay3]
  simp

/-- The reference's share of the rows at a position. -/
theorem share_ref (e : FVec Ideal Cert.ReferenceIdeal.S65536x256 .f32) (l : Fin 256) :
    (shareR e (ix1 l) : EReal) = Ideal.div (∑ R : Fin 65536, e (ix2 R l)) (Ideal.ofBits .f32 0x47800000#32) := by
  pointwise [shareR]

/-- The reference's perplexity of the shares. -/
theorem perp_ref (s : FVec Ideal Cert.ReferenceIdeal.S256 .f32) (j) :
    (perpR s j : EReal) = Ideal.exp (-(∑ l : Fin 256, s (ix1 l) * Ideal.log (s (ix1 l) + Ideal.ofBits .f32 0x2EDBE6FF#32))) := by
  pointwise [perpR]

/-- The kernel's perplexity of the counts. -/
theorem perp_kernel (e : FVec Ideal Cert.KernelIdeal.S1x256 .f32) (i j : Fin 1) :
    (k0_pay6 (F := Ideal) e (ix2 i j) : EReal) = Ideal.exp (0 - (∑ l : Fin 256, e (ix2 (0 : Fin 1) l) * Ideal.ofBits .f32 0x37800000#32
      * Ideal.log (e (ix2 (0 : Fin 1) l) * Ideal.ofBits .f32 0x37800000#32 + Ideal.ofBits .f32 0x2EDBE6FF#32))) := by
  pointwise [k0_pay6]
  rw [Fin.sum_univ_one]
  rfl

/-- The one index of a one-by-one array. -/
theorem first_eq (h : 0 < Cert.KernelIdeal.S1x1.numel) : Shape.Idx.first h = ix2 (0 : Fin 1) (0 : Fin 1) := by
  obtain ⟨a, b, e⟩ : ∃ a b : Fin 1, Shape.Idx.first h = ix2 a b := ⟨_, _, eq_ix2 _⟩
  rw [e, Subsingleton.elim a 0, Subsingleton.elim b 0]

/-- The kernel's loss. -/
theorem loss_kernel (a : FVec Ideal Cert.KernelIdeal.S1x1 .f32) (i j : Fin 1) :
    (lossOut (F := Ideal) a (ix2 i j) : EReal) = Ideal.div (Ideal.ofBits .f32 0x3FA00000#32 * a (ix2 (0 : Fin 1) (0 : Fin 1))) (Ideal.ofBits .f32 0x4B800000#32) := by
  pointwise [lossOut, k0_pay5]
  rw [first_eq]

/-- The reference's mean squared difference. -/
theorem mean_ref (q z : FVec Ideal Cert.ReferenceIdeal.S64x1024x256 .f32) (j) :
    (meanR q z j : EReal) = Ideal.div (∑ t : Fin 64, ∑ r : Fin 1024, ∑ k : Fin 256, (q (ix3 t r k) - z (ix3 t r k)) * (q (ix3 t r k) - z (ix3 t r k)))
      (Ideal.ofBits .f32 0x4B800000#32) := by
  pointwise [meanR]

/-- What is accumulated from zero over the 64 points is the sum of what each adds. -/
theorem accum (a : ℕ → EReal) (s : Fin 64 → EReal) (h0 : a 0 = 0) (hs : ∀ t : Fin 64, a (t.val + 1) = a t.val + s t) : a 64 = ∑ t, s t := by
  have h : ∀ n (h : n ≤ 64), a n = ∑ t : Fin n, s (t.castLE h) := by
    intro n
    induction n with
    | zero => intro _; simp [h0]
    | succ n ih =>
      intro h
      rw [Fin.sum_univ_castSucc, hs ⟨n, h⟩, ih (by omega)]
      rfl
  exact h 64 le_rfl

end Cert.Value

end
-- ==== Proof.Value.Reals.lean ====
module

public import proofs.«01_k».proof.Proof.Value.Rows
public import Idealize.ShloMosaic.Lib.IdealHost

@[expose] public section

set_option maxRecDepth 16384

noncomputable section

/-! The real arithmetic of the two programs' sums, over finite values. -/

namespace Cert.Value

open Idealize.ShloMosaic Idealize.ShloMosaic.Pointwise

/-- The constants, as real numbers. -/
theorem bits_two : Ideal.ofBits .f32 0x40000000#32 = ((2 : ℝ) : EReal) := by simp [Ideal.ofBits, Ideal.ieee, -EReal.coe_mul]; norm_num
theorem bits_five_fourths : Ideal.ofBits .f32 0x3FA00000#32 = ((5 / 4 : ℝ) : EReal) := by simp [Ideal.ofBits, Ideal.ieee, -EReal.coe_mul]; norm_num
theorem bits_fourth : Ideal.ofBits .f32 0x3E800000#32 = ((1 / 4 : ℝ) : EReal) := by simp [Ideal.ofBits, Ideal.ieee, -EReal.coe_mul]; norm_num
theorem bits_numel : Ideal.ofBits .f32 0x4B800000#32 = ((16777216 : ℝ) : EReal) := by simp [Ideal.ofBits, Ideal.ieee, -EReal.coe_mul]; norm_num
theorem bits_rows : Ideal.ofBits .f32 0x47800000#32 = ((65536 : ℝ) : EReal) := by simp [Ideal.ofBits, Ideal.ieee, -EReal.coe_mul]; norm_num
theorem bits_share : Ideal.ofBits .f32 0x37800000#32 = ((1 / 65536 : ℝ) : EReal) := by simp [Ideal.ofBits, Ideal.ieee, -EReal.coe_mul]; norm_num

/-- A division by the number of rows is a product with its reciprocal. -/
theorem div_rows (x : EReal) : Ideal.div x (Ideal.ofBits .f32 0x47800000#32) = x * Ideal.ofBits .f32 0x37800000#32 := by
  rw [bits_rows, bits_share, Ideal.div_coe (by norm_num)]

/-- A sum of reals is the real sum. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The squared distance, written out, is the sum of the squared differences. -/
theorem dst_eq (x : Fin 256 → ℝ) (w : Fin 256 → Fin 256 → ℝ) (l : Fin 256) :
    dst (fun k => (x k : EReal)) (fun l k => (w l k : EReal)) l = ((∑ k, (w l k - x k) * (w l k - x k) : ℝ) : EReal) := by
  unfold dst
  rw [bits_two]
  simp only [← EReal.coe_mul, coe_sum, ← EReal.coe_add, ← EReal.coe_sub]
  congr 1
  rw [Finset.mul_sum, ← Finset.sum_add_distrib, ← Finset.sum_sub_distrib]
  exact Finset.sum_congr rfl fun k _ => by ring

/-- Five fourths of a mean is a fourth of it and the mean. -/
theorem loss_eq (s : ℝ) : Ideal.div (Ideal.ofBits .f32 0x3FA00000#32 * (s : EReal)) (Ideal.ofBits .f32 0x4B800000#32)
    = Ideal.ofBits .f32 0x3E800000#32 * Ideal.div (s : EReal) (Ideal.ofBits .f32 0x4B800000#32) + Ideal.div (s : EReal) (Ideal.ofBits .f32 0x4B800000#32) := by
  rw [bits_five_fourths, bits_fourth, bits_numel, Ideal.div_coe (by norm_num), Ideal.div_coe (by norm_num)]
  simp only [← EReal.coe_mul, ← EReal.coe_add]
  congr 1
  ring

/-- A value that is neither infinity is a real number. -/
theorem exists_real {α : Type} (f : α → EReal) (h : ∀ i, f i ≠ ⊤ ∧ f i ≠ ⊥) : ∃ g : α → ℝ, f = fun i => (g i : EReal) :=
  ⟨fun i => (f i).toReal, funext fun i => (EReal.coe_toReal (h i).1 (h i).2).symm⟩

/-- A finite value plus the difference to another is the other. -/
theorem add_sub_finite {x y : EReal} (hx : x ≠ ⊤ ∧ x ≠ ⊥) (hy : y ≠ ⊤ ∧ y ≠ ⊥) : x + (y - x) = y := by
  lift x to ℝ using hx
  lift y to ℝ using hy
  rw [← EReal.coe_sub, ← EReal.coe_add]
  congr 1
  ring

end Cert.Value

end
-- ==== Proof.Value.Arrays.lean ====
module

public import proofs.«01_k».proof.Proof.Value.Entries
public import proofs.«01_k».proof.Proof.Value.Counts
public import proofs.«01_k».proof.Proof.Value.Reals
public import Idealize.ShloMosaic.Lib.Pipeline.ValueKit

@[expose] public section

set_option maxRecDepth 16384

noncomputable section

/-! The kernel's arrays after the run. -/

namespace Cert.Value

open Idealize.ShloMosaic Idealize.ShloMosaic.TcCoe Idealize.SL.Sem Idealize.ShloMosaic.Pointwise
open Idealize.ShloMosaic.Pipeline (Dat)
open Cert.ReferenceIdeal.Hand (nearR distR flatR bookR rowsR colR pickedR outR)
open Cert.KernelIdeal Cert.KernelIdeal.Hand Cert.KernelIdeal.Gen

variable (m : (ℓ : Loc nD τ sig) → Buf (Elt Ideal) ℓ) (c : Dev nD)

/-- The blocks' places, at every point. -/
theorem idx : ∀ t : Fin cfg0.N, win0_0.index t = ![0] ∧ win0_1.index t = ![t.val, 0, 0] ∧ win0_2.index t = ![0, 0]
    ∧ win0_3.index t = ![t.val, 0, 0] ∧ win0_4.index t = ![0, 0] ∧ win0_5.index t = ![0, 0] ∧ win0_6.index t = ![t.val, 0] ∧ win0_7.index t = ![t.val, 0] :=
  (by decide +kernel : ∀ t : Fin grid0.N, _)

/-- The vectors the kernel is given. -/
abbrev argZ : FVec Ideal Cert.ReferenceIdeal.S64x1024x256 .f32 := m ((c : Thread nD τ).loc main_arg0)
/-- The selection the kernel is given. -/
abbrev argO : FVec Ideal Cert.ReferenceIdeal.S7 .f32 := m ((c : Thread nD τ).loc main_arg1)
/-- The codebooks the kernel is given. -/
abbrev argW : FVec Ideal Cert.ReferenceIdeal.S1792x256 .f32 := m ((c : Thread nD τ).loc main_arg2)

/-- The selection's block is the whole of it. -/
theorem blk0 (t : Fin cfg0.N) : iblk m c 0 t = argO m c := by blk_ext! [iblk, V, idx t]
/-- The codebooks' block is all of them. -/
theorem blk2 (t : Fin cfg0.N) : iblk m c 2 t = argW m c := by blk_ext! [iblk, V, idx t]
/-- The vectors' block is one image. -/
theorem blk1 (t : Fin cfg0.N) (r : Fin 1024) (k : Fin 256) :
    (show FVec Ideal Cert.KernelIdeal.S1x1024x256 .f32 from iblk m c 1 t) (ix3 (0 : Fin 1) r k) = argZ m c (ix3 (⟨t.val, t.isLt⟩ : Fin 64) r k) := by
  blk_point [iblk, V, idx t]

/-- The reference's nearest positions, over the kernel's arguments. -/
abbrev refNear := nearR (distR (F := Ideal) (flatR (argZ m c)) (bookR (argO m c) (argW m c)))
/-- The nearest positions, over the kernel's arguments. -/
abbrev argCell (t : Fin 64) (r : Fin 1024) : Fin 256 := cell (argO m c) (argW m c) (argZ m c) t r

/-- The reference's one-hot rows at a flat row. -/
theorem enc_row (t : Fin 64) (r : Fin 1024) (l : Fin 256) :
    (rowsR (F := Ideal) (refNear m c) (ix2 (⟨t.val * 1024 + r.val, by omega⟩ : Fin 65536) l) : EReal) = if l = argCell m c t r then 1 else 0 := by
  refine (enc_ref _ _ _ _ l).trans ?_
  simp only [row_of]

/-- The fourth result: the one-hot rows. -/
theorem final_enc : (dats m 0 c).arrAt 6 (cfgs 0).N = rowsR (F := Ideal) (refNear m c) := by
  refine (dats m 0 c).arrAt_eq_of_covers 6 _ (by decide +kernel) fun t _ y => ?_
  blk_simp
  rw [after0_6, blk0, blk2]
  obtain ⟨r, l, rfl⟩ : ∃ (r : Fin 1024) (l : Fin 256), y = ix2 r l := ⟨_, _, eq_ix2 y⟩
  refine (enc_kernel (argO m c) (argW m c) (argZ m c) ⟨t.val, t.isLt⟩ _ (blk1 m c t) r l).trans ?_
  refine (enc_row m c ⟨t.val, t.isLt⟩ r l).symm.trans (congrArg (rowsR (F := Ideal) (refNear m c)) ?_)
  blk_ext [idx t]

/-- The fifth result: the index column. -/
theorem final_idx : (dats m 0 c).arrAt 7 (cfgs 0).N = colR (refNear m c) := by
  refine (dats m 0 c).arrAt_eq_of_covers 7 _ (by decide +kernel) fun t _ y => ?_
  blk_simp
  rw [after0_7, blk0, blk2]
  obtain ⟨r, q, rfl⟩ : ∃ (r : Fin 1024) (q : Fin 1), y = ix2 r q := ⟨_, _, eq_ix2 y⟩
  obtain rfl : q = 0 := Subsingleton.elim _ _
  refine (col_kernel (argO m c) (argW m c) (argZ m c) ⟨t.val, t.isLt⟩ _ (blk1 m c t) r).trans ?_
  refine Eq.trans ?_ ((col_ref (argO m c) (argW m c) (argZ m c) ⟨t.val * 1024 + r.val, by have := t.isLt; have : t.val < 64 := this; omega⟩).symm.trans
    (congrArg (colR (refNear m c)) ?_))
  · have h := row_of ⟨t.val, t.isLt⟩ r
    rw [h.1, h.2]
  · blk_ext [idx t]

/-- The reference's picked entries, over the kernel's arguments. -/
abbrev refPick := pickedR (F := Ideal) (rowsR (refNear m c)) (bookR (argO m c) (argW m c))

/-- The first result: the vectors moved onto their nearest entries, transposed. -/
theorem final_out (hz : ∀ i, (argZ m c i : EReal) ≠ ⊤ ∧ (argZ m c i : EReal) ≠ ⊥) (hW : ∀ i, (argW m c i : EReal) ≠ ⊤ ∧ (argW m c i : EReal) ≠ ⊥) :
    (dats m 0 c).arrAt 3 (cfgs 0).N = outR (refPick m c) (argZ m c) := by
  refine (dats m 0 c).arrAt_eq_of_covers 3 _ (by decide +kernel) fun t _ y => ?_
  blk_simp
  rw [after0_3, blk0, blk2]
  obtain ⟨q, k, r, rfl⟩ : ∃ (q : Fin 1) (k : Fin 256) (r : Fin 1024), y = ix3 q k r := ⟨_, _, _, eq_ix3 y⟩
  obtain rfl : q = 0 := Subsingleton.elim _ _
  refine (zqt_kernel (argO m c) (argW m c) (argZ m c) ⟨t.val, t.isLt⟩ _ (blk1 m c t) k r).trans ?_
  refine Eq.trans ?_ ((out_ref (refPick m c) (argZ m c) ⟨t.val, t.isLt⟩ k r).symm.trans (congrArg (outR (refPick m c) (argZ m c)) ?_))
  · exact ((congrArg (fun v : EReal => (argZ m c (ix3 (⟨t.val, t.isLt⟩ : Fin 64) r k) : EReal) + (v - argZ m c (ix3 (⟨t.val, t.isLt⟩ : Fin 64) r k)))
      (picked_ref (argO m c) (argW m c) (argZ m c) ⟨t.val, t.isLt⟩ r k)).trans (add_sub_finite (hz _) (hW _))).symm
  · blk_ext [idx t]

/-- The sum of the least distances, over the points. -/
theorem loss_total (i j : Fin 1) : (lossAt m c 64 (ix2 i j) : EReal)
    = ∑ t : Fin 64, ∑ r : Fin 1024, dst (fun k => argZ m c (ix3 t r k)) (book (argO m c) (argW m c)) (argCell m c t r) := by
  have h0 : (lossAt m c 0 (ix2 i j) : EReal) = 0 := by
    unfold lossAt loss0
    exact Ideal.ofBits_zero_f32
  refine accum (fun n => (lossAt m c n (ix2 i j) : EReal)) _ h0 fun t => ?_
  have e := congrFun (lossAt_succ m c ⟨t.val, t.isLt⟩) (ix2 i j)
  refine e.trans ?_
  rw [blk0, blk2]
  refine (loss_step _ _).trans (congrArg₂ (fun a b : EReal => a + b) ?_ ?_)
  · rw [first_eq, Subsingleton.elim i 0, Subsingleton.elim j 0]
  · refine Finset.sum_congr rfl fun r _ => ?_
    refine (least_eq _ _ r).trans ?_
    rw [cell_kernel (argO m c) (argW m c) (argZ m c) t _ (blk1 m c ⟨t.val, t.isLt⟩)]
    refine (dist_kernel _ _ r _).trans ?_
    congr 1
    · funext k; exact blk1 m c ⟨t.val, t.isLt⟩ r k
    · funext l k; exact sect_eq _ _ l k

/-- The counts, over the points. -/
theorem cnt_total (l : Fin 256) : (cntAt m c 64 (ix2 (0 : Fin 1) l) : EReal)
    = ∑ t : Fin 64, ∑ r : Fin 1024, if l = argCell m c t r then 1 else 0 := by
  refine accum (fun n => (cntAt m c n (ix2 (0 : Fin 1) l) : EReal)) _ (cnt_zero l) fun t => ?_
  have e := congrFun (cntAt_succ m c ⟨t.val, t.isLt⟩) (ix2 (0 : Fin 1) l)
  refine e.trans ?_
  rw [blk0, blk2]
  refine (cnt_step _ _ l).trans ?_
  congr 1
  exact Finset.sum_congr rfl fun r _ => enc_kernel (argO m c) (argW m c) (argZ m c) t _ (blk1 m c ⟨t.val, t.isLt⟩) r l

end Cert.Value

end
-- ==== Proof.Value.Totals.lean ====
module

public import proofs.«01_k».proof.Proof.Value.Arrays

@[expose] public section

set_option maxRecDepth 16384

noncomputable section

/-! The kernel's two scalars after the run. -/

namespace Cert.Value

open Idealize.ShloMosaic Idealize.ShloMosaic.TcCoe Idealize.SL.Sem Idealize.ShloMosaic.Pointwise
open Idealize.ShloMosaic.Pipeline (Dat)
open Cert.ReferenceIdeal.Hand (rowsR meanR lossR shareR perpR)
open Cert.KernelIdeal Cert.KernelIdeal.Hand Cert.KernelIdeal.Gen

variable (m : (ℓ : Loc nD τ sig) → Buf (Elt Ideal) ℓ) (c : Dev nD)

/-- A sum over the flat rows is a sum over the images and their vectors. -/
theorem sum_rows (f : Fin 64 → Fin 1024 → EReal) : ∑ R : Fin 65536, f (rowT R) (rowV R) = ∑ t, ∑ r, f t r := by
  refine (Fin.sum_univ_tiles 64 1024 rfl (fun R : Fin 65536 => f (rowT R) (rowV R))).trans ?_
  refine Finset.sum_congr rfl fun t _ => Finset.sum_congr rfl fun r _ => ?_
  have h := row_of t r
  exact congrArg₂ f h.1 h.2

/-- The kernel's perplexity is the reference's. -/
theorem perp_total (i j : Fin 1) (x) : (k0_pay6 (cntAt m c 64) (ix2 i j) : EReal) = perpR (shareR (rowsR (F := Ideal) (refNear m c))) x := by
  have hs : ∀ l : Fin 256, (shareR (rowsR (F := Ideal) (refNear m c)) (ix1 l) : EReal) = cntAt m c 64 (ix2 (0 : Fin 1) l) * Ideal.ofBits .f32 0x37800000#32 := fun l => by
    refine (share_ref _ l).trans ((div_rows _).trans ?_)
    refine congrArg (fun v : EReal => v * Ideal.ofBits .f32 0x37800000#32) ?_
    refine Eq.trans ?_ (cnt_total m c l).symm
    refine Eq.trans (Finset.sum_congr rfl fun R _ => enc_ref (argO m c) (argW m c) (argZ m c) R l) ?_
    exact sum_rows fun t r => if l = argCell m c t r then 1 else 0
  refine (perp_kernel _ i j).trans (Eq.trans ?_ (perp_ref _ x).symm)
  rw [zero_sub]
  refine congrArg (fun v : EReal => Ideal.exp (-v)) ?_
  exact Finset.sum_congr rfl fun l _ => by rw [hs l]

/-- The kernel's loss is the reference's. -/
theorem loss_all (hz : ∀ i, (argZ m c i : EReal) ≠ ⊤ ∧ (argZ m c i : EReal) ≠ ⊥) (hW : ∀ i, (argW m c i : EReal) ≠ ⊤ ∧ (argW m c i : EReal) ≠ ⊥)
    (i j : Fin 1) (x) : (lossOut (lossAt m c 64) (ix2 i j) : EReal) = lossR (refPick m c) (argZ m c) x := by
  obtain ⟨a, ha⟩ := exists_real (fun i => (argZ m c i : EReal)) hz
  obtain ⟨b, hb⟩ := exists_real (fun i => (argW m c i : EReal)) hW
  have hbook : ∃ w : Fin 256 → Fin 256 → ℝ, book (argO m c) (argW m c) = fun l k => (w l k : EReal) :=
    ⟨fun l k => _, funext fun l => funext fun k => congrFun hb _⟩
  obtain ⟨w, hw⟩ := hbook
  obtain ⟨s, hs⟩ : ∃ s : ℝ, s = ∑ t : Fin 64, ∑ r : Fin 1024, ∑ k : Fin 256,
    (w (argCell m c t r) k - a (ix3 t r k)) * (w (argCell m c t r) k - a (ix3 t r k)) := ⟨_, rfl⟩
  have hk : (lossAt m c 64 (ix2 (0 : Fin 1) (0 : Fin 1)) : EReal) = (s : EReal) := by
    refine (loss_total m c 0 0).trans ?_
    simp only [hs, ← coe_sum]
    refine Finset.sum_congr rfl fun t _ => Finset.sum_congr rfl fun r _ => ?_
    rw [coe_sum, ← dst_eq, hw]
    have e : (fun k => (argZ m c (ix3 t r k) : EReal)) = fun k => (a (ix3 t r k) : EReal) := funext fun k => congrFun ha (ix3 t r k)
    exact congrArg (fun f => dst f (fun l k => (w l k : EReal)) (argCell m c t r)) e
  have hr : (meanR (refPick m c) (argZ m c) x : EReal) = Ideal.div (s : EReal) (Ideal.ofBits .f32 0x4B800000#32) := by
    refine (mean_ref (refPick m c) (argZ m c) x).trans (congrArg (fun v : EReal => Ideal.div v (Ideal.ofBits .f32 0x4B800000#32)) ?_)
    simp only [hs, ← coe_sum]
    refine Finset.sum_congr rfl fun t _ => Finset.sum_congr rfl fun r _ => Finset.sum_congr rfl fun k _ => ?_
    have e := (picked_ref (argO m c) (argW m c) (argZ m c) t r k).trans (congrFun (congrFun hw _) k)
    rw [EReal.coe_mul, EReal.coe_sub]
    have d : (refPick m c (ix3 t r k) : EReal) - argZ m c (ix3 t r k) = ((w (argCell m c t r) k : ℝ) : EReal) - ((a (ix3 t r k) : ℝ) : EReal) :=
      congrArg₂ (fun u v : EReal => u - v) e (congrFun ha _)
    exact congrArg (fun v : EReal => v * v) d
  refine (loss_kernel _ i j).trans ?_
  rw [hk, loss_eq]
  exact (congrArg (fun v : EReal => Ideal.ofBits .f32 0x3E800000#32 * v + v) hr).symm

/-- The two scalars are written back at the last point only. -/
theorem flush_last5 : ∀ t : Fin cfg0.N, (cfg0.win 5).flush t = true → t.val = 63 := by decide +kernel
theorem flush_last : ∀ t : Fin cfg0.N, (cfg0.win 4).flush t = true → t.val = 63 := by decide +kernel

/-- The second result's array: the loss. -/
theorem final_loss : (dats m 0 c).arrAt 4 (cfgs 0).N = lossOut (lossAt m c 64) := by
  refine (dats m 0 c).arrAt_eq_of_covers 4 _ (by decide +kernel) fun t hf y => ?_
  blk_simp
  rw [after0_4, flush_last t hf]
  obtain ⟨i, j, rfl⟩ : ∃ i j : Fin 1, y = ix2 i j := ⟨_, _, eq_ix2 y⟩
  refine congrArg (lossOut (lossAt m c 64)) ?_
  blk_ext [idx t]

/-- The third result's array: the perplexity. -/
theorem final_perp : (dats m 0 c).arrAt 5 (cfgs 0).N = k0_pay6 (cntAt m c 64) := by
  refine (dats m 0 c).arrAt_eq_of_covers 5 _ (by decide +kernel) fun t hf y => ?_
  blk_simp
  rw [after0_5, flush_last5 t hf]
  obtain ⟨i, j, rfl⟩ : ∃ i j : Fin 1, y = ix2 i j := ⟨_, _, eq_ix2 y⟩
  refine congrArg (k0_pay6 (cntAt m c 64)) ?_
  blk_ext [idx t]

end Cert.Value

end
-- ==== Proof.Value.Run.lean ====
module

public import proofs.«01_k».proof.Proof.Value.Totals
public import proofs.«01_k».proof.Proof.ReferenceIdeal.Run
public import Idealize.ShloMosaic.Lib.Claim

@[expose] public section

set_option maxRecDepth 16384

noncomputable section

/-! The kernel's run ends with the reference's five values. -/

namespace Cert.Value

open Idealize.ShloMosaic Idealize.ShloMosaic.TcCoe Idealize.SL.Sem Idealize.ShloMosaic.Pointwise
open Cert.ReferenceIdeal.Hand (nearR distR flatR bookR rowsR colR pickedR outR lossR shareR perpR)
open Cert.KernelIdeal Cert.KernelIdeal.Hand Cert.KernelIdeal.Gen

variable (m : (ℓ : Loc nD τ sig) → Buf (Elt Ideal) ℓ) (ρ : Dev nD → PrngReg) (c : Dev nD)

/-- The scalar loss is the one entry of its array. -/
theorem tail_loss : Pipeline.afterTail₀ cfgs (dats m) 0 (V0 m) [hostOps1] c main_v1
    = shapeCast S_ (show FVec Ideal S1x1 .f32 from (dats m 0 c).arrAt 4 (cfgs 0).N) shapeCasts_S1x1_S_ := by
  refine Eq.trans ?_ (congrArg (fun x : FVec Ideal S1x1 .f32 => shapeCast S_ x shapeCasts_S1x1_S_)
    (Pipeline.withArrays_arr spec0 launch0.win.arr_inj c (V0 m c) (fun w => (dats m 0 c).arrAt w (cfgs 0).N) 4))
  unfold Pipeline.afterTail₀
  simp only [List.flatten_cons, List.flatten_nil, List.append_nil, StableHlo.after_cons, StableHlo.after_nil]
  after_results_simp
  rfl

/-- The scalar perplexity is the one entry of its array. -/
theorem tail_perp : Pipeline.afterTail₀ cfgs (dats m) 0 (V0 m) [hostOps1] c main_v2
    = shapeCast S_ (show FVec Ideal S1x1 .f32 from (dats m 0 c).arrAt 5 (cfgs 0).N) shapeCasts_S1x1_S_ := by
  refine Eq.trans ?_ (congrArg (fun x : FVec Ideal S1x1 .f32 => shapeCast S_ x shapeCasts_S1x1_S_)
    (Pipeline.withArrays_arr spec0 launch0.win.arr_inj c (V0 m c) (fun w => (dats m 0 c).arrAt w (cfgs 0).N) 5))
  unfold Pipeline.afterTail₀
  simp only [List.flatten_cons, List.flatten_nil, List.append_nil, StableHlo.after_cons, StableHlo.after_nil]
  after_results_simp
  rfl

/-- An array of one entry, as a scalar, is what each of its entries is. -/
theorem scalar_eq (a : FVec Ideal S1x1 .f32) (v : FVec Ideal S_ .f32) (h : ∀ (i j : Fin 1) x, a (ix2 i j) = v x) :
    shapeCast S_ a shapeCasts_S1x1_S_ = v := by
  funext x
  unfold shapeCast
  obtain ⟨i, j, e⟩ : ∃ i j : Fin 1, Shape.reshapeEquiv shapeCasts_S1x1_S_ x = ix2 i j := ⟨_, _, eq_ix2 _⟩
  exact (congrArg a e).trans (h i j x)

/-- The kernel's five results are the reference's, over the kernel's arguments, when the vectors and the codebooks are finite. -/
theorem run (hz : ∀ c i, (argZ m c i : EReal) ≠ ⊤ ∧ (argZ m c i : EReal) ≠ ⊥) (hW : ∀ c i, (argW m c i : EReal) ≠ ⊤ ∧ (argW m c i : EReal) ≠ ⊥) :
    θ_run defs (onTc (τ := τ) (main (F := Ideal))) ⟨m, fun _ => 0, ρ⟩ (fun r => ∀ c : Dev nD,
      r.2.mem ((c.tc : Thread nD τ).loc main_v0_0) = outR (refPick m c) (argZ m c)
      ∧ r.2.mem ((c.tc : Thread nD τ).loc main_v1) = lossR (refPick m c) (argZ m c)
      ∧ r.2.mem ((c.tc : Thread nD τ).loc main_v2) = perpR (shareR (rowsR (F := Ideal) (refNear m c)))
      ∧ r.2.mem ((c.tc : Thread nD τ).loc main_v0_3) = rowsR (F := Ideal) (refNear m c)
      ∧ r.2.mem ((c.tc : Thread nD τ).loc main_v0_4) = colR (refNear m c)) :=
  (θ_run defs _ _).mono (fun r h c =>
    ⟨((h c).1 3).trans (final_out m c (hz c) (hW c)),
      ((h c).2 main_v1 (by decide)).trans ((tail_loss m c).trans ((congrArg (fun x : FVec Ideal S1x1 .f32 => shapeCast S_ x shapeCasts_S1x1_S_)
        (final_loss m c)).trans (scalar_eq _ _ (loss_all m c (hz c) (hW c))))),
      ((h c).2 main_v2 (by decide)).trans ((tail_perp m c).trans ((congrArg (fun x : FVec Ideal S1x1 .f32 => shapeCast S_ x shapeCasts_S1x1_S_)
        (final_perp m c)).trans (scalar_eq _ _ (perp_total m c)))),
      ((h c).1 6).trans (final_enc m c),
      ((h c).1 7).trans (final_idx m c)⟩) (run_main m ρ)

/-- The reference's five results, over any arrays its arguments hold. -/
theorem run_ref (m' : (ℓ : Loc Cert.ReferenceIdeal.nD Cert.ReferenceIdeal.τ Cert.ReferenceIdeal.sig) → Buf (Elt Ideal) ℓ) (ρ' : Dev Cert.ReferenceIdeal.nD → PrngReg)
    (z : Dev Cert.ReferenceIdeal.nD → FVec Ideal Cert.ReferenceIdeal.S64x1024x256 .f32) (o : Dev Cert.ReferenceIdeal.nD → FVec Ideal Cert.ReferenceIdeal.S7 .f32)
    (W : Dev Cert.ReferenceIdeal.nD → FVec Ideal Cert.ReferenceIdeal.S1792x256 .f32)
    (hz : ∀ c : Dev Cert.ReferenceIdeal.nD, m' ((c.tc : Thread Cert.ReferenceIdeal.nD Cert.ReferenceIdeal.τ).loc Cert.ReferenceIdeal.main_arg0) = z c)
    (ho : ∀ c : Dev Cert.ReferenceIdeal.nD, m' ((c.tc : Thread Cert.ReferenceIdeal.nD Cert.ReferenceIdeal.τ).loc Cert.ReferenceIdeal.main_arg1) = o c)
    (hW : ∀ c : Dev Cert.ReferenceIdeal.nD, m' ((c.tc : Thread Cert.ReferenceIdeal.nD Cert.ReferenceIdeal.τ).loc Cert.ReferenceIdeal.main_arg2) = W c) :
    θ_run Cert.ReferenceIdeal.defs (onTc (τ := Cert.ReferenceIdeal.τ) (Cert.ReferenceIdeal.main (F := Ideal))) ⟨m', fun _ => 0, ρ'⟩
      (fun r => ∀ c : Dev Cert.ReferenceIdeal.nD,
      r.2.mem ((c.tc : Thread Cert.ReferenceIdeal.nD Cert.ReferenceIdeal.τ).loc Cert.ReferenceIdeal.main_v64)
          = outR (pickedR (rowsR (nearR (distR (flatR (z c)) (bookR (o c) (W c))))) (bookR (o c) (W c))) (z c)
      ∧ r.2.mem ((c.tc : Thread Cert.ReferenceIdeal.nD Cert.ReferenceIdeal.τ).loc Cert.ReferenceIdeal.main_v51)
          = lossR (pickedR (rowsR (nearR (distR (flatR (z c)) (bookR (o c) (W c))))) (bookR (o c) (W c))) (z c)
      ∧ r.2.mem ((c.tc : Thread Cert.ReferenceIdeal.nD Cert.ReferenceIdeal.τ).loc Cert.ReferenceIdeal.main_v63)
          = perpR (shareR (rowsR (F := Ideal) (nearR (distR (flatR (z c)) (bookR (o c) (W c))))))
      ∧ r.2.mem ((c.tc : Thread Cert.ReferenceIdeal.nD Cert.ReferenceIdeal.τ).loc Cert.ReferenceIdeal.main_v39)
          = rowsR (F := Ideal) (nearR (distR (flatR (z c)) (bookR (o c) (W c))))
      ∧ r.2.mem ((c.tc : Thread Cert.ReferenceIdeal.nD Cert.ReferenceIdeal.τ).loc Cert.ReferenceIdeal.main_v22)
          = colR (nearR (distR (flatR (z c)) (bookR (o c) (W c))))
      ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m' ((c.tc : Thread Cert.ReferenceIdeal.nD Cert.ReferenceIdeal.τ).loc Cert.ReferenceIdeal.main_arg2)) := by
  obtain rfl := funext hz
  obtain rfl := funext ho
  obtain rfl := funext hW
  exact Cert.ReferenceIdeal.Hand.run_main m' ρ'

end Cert.Value

end
-- ==== Proof.lean ====
module

public import proofs.«01_k».proof.Proof.Gen.Pre_finite
public import proofs.«01_k».proof.Defs
public import proofs.«01_k».proof.Proof.Same
public import proofs.«01_k».proof.Proof.KernelIdeal.Launch
public import proofs.«01_k».proof.Proof.ReferenceIdeal.Run
public import proofs.«01_k».proof.Proof.Value.Finite
public import proofs.«01_k».proof.Proof.Value.Run
public import Idealize.ShloMosaic.Adequacy
public import Idealize.ShloMosaic.Init

@[expose] public section

noncomputable section

namespace Cert.Proof

open Idealize.ShloMosaic Idealize.SL.Sem

/-- The reference's arguments end unchanged and, as it declares no counter, every counter ends at zero. -/
theorem frame_ri : Cert.quiescent_ReferenceIdeal := fun m g _ =>
  (θ_run Cert.ReferenceIdeal.defs _ _).mono
    (fun r h => ⟨fun c => (h c).2.2.2.2.2, Idealize.ShloMosaic.sem_eq_zero_of_no_sems (by decide) r.2⟩)
    (Cert.ReferenceIdeal.Hand.run_main m g)

/-- The kernel's five results are the reference's, whenever the vectors and the codebooks are finite. -/
theorem algebraic : Cert.algebraic_KernelIdeal_ReferenceIdeal_pre_finite := by
  intro m g m' g' hpre hm
  have hz : ∀ c i, (Cert.Value.argZ m c i : EReal) ≠ ⊤ ∧ (Cert.Value.argZ m c i : EReal) ≠ ⊥ := fun c => (Cert.Value.finite_elems _ _ _ (hpre c)).1
  have hW : ∀ c i, (Cert.Value.argW m c i : EReal) ≠ ⊤ ∧ (Cert.Value.argW m c i : EReal) ≠ ⊥ := fun c => (Cert.Value.finite_elems _ _ _ (hpre c)).2
  refine ⟨_, _, _, _, _, (θ_run Cert.KernelIdeal.defs _ _).mono (fun r h c => ?_) (θ_run_and (Cert.Value.run m g hz hW) (Cert.KernelIdeal.Hand.frame m g)),
    Cert.Value.run_ref m' g' _ _ _ (fun c => (hm c).1) (fun c => (hm c).2.1) (fun c => (hm c).2.2)⟩
  obtain ⟨h0, h1, h2, h3, h4⟩ := h.1 c
  exact ⟨h0, h1, h2, h3, h4, h.2.1 c⟩

/-- Everything the certificate claims. -/
theorem claim : Cert.Claim := ⟨Cert.Kernel.Gen.facts, Cert.KernelIdeal.Gen.facts, Cert.ReferenceIdeal.Gen.facts, Cert.Pre_finite.Gen.facts,
  Cert.Value.frame_kernel,
  fun m g _ => Cert.KernelIdeal.Hand.frame m g,
  fun m g _ => Cert.KernelIdeal.Hand.frame m g,
  frame_ri,
  fun m g _ => frame_ri m g trivial,
  trivial,
  algebraic⟩

end Cert.Proof

end
